-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_steps [hPre_finite_steps : Cert.Pre_finite_steps.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_steps.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_steps [hPre_finite_steps : Cert.Pre_finite_steps.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_steps.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Kernel16Ideal_pre_finite_steps [hKernel16Ideal : Cert.Kernel16Ideal.Facts] [hPre_finite_steps : Cert.Pre_finite_steps.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_steps m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Reference16Ideal_pre_finite_steps [hReference16Ideal : Cert.Reference16Ideal.Facts] [hPre_finite_steps : Cert.Pre_finite_steps.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_steps m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def preserves_Kernel_KernelIdeal : Prop :=
  True

def algebraic_KernelIdeal_ReferenceIdeal_on_latent_rows_pre_finite_scores [hKernelIdeal : Cert.KernelIdeal.Facts] [hReferenceIdeal : Cert.ReferenceIdeal.Facts] [hPre_finite_scores : Cert.Pre_finite_scores.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![16640, 2048]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.KernelIdeal.nD Cert.KernelIdeal.τ).loc Cert.KernelIdeal.main_v2) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![16640, 2048]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) i = 1#1 → r.2.mem ((c.tc : Thread Cert.ReferenceIdeal.nD Cert.ReferenceIdeal.τ).loc Cert.ReferenceIdeal.main_v18) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v20) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v12) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v42) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v34) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v20) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel16_Kernel16Ideal : Prop :=
  True

def algebraic_Kernel16Ideal_Reference16Ideal_pre_finite_steps [hKernel16Ideal : Cert.Kernel16Ideal.Facts] [hReference16Ideal : Cert.Reference16Ideal.Facts] [hPre_finite_steps : Cert.Pre_finite_steps.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_steps m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v6)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v6) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v40) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hPre_finite_scores : Cert.Pre_finite_scores.Facts) (hPre_finite_steps : Cert.Pre_finite_steps.Facts) (hOn_latent_rows : Cert.On_latent_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Kernel16Ideal_pre_finite_steps (hKernel16Ideal := hKernel16Ideal) (hPre_finite_steps := hPre_finite_steps)
    ∧ quiescent_Reference16Ideal (hReference16Ideal := hReference16Ideal)
    ∧ quiescent_Reference16Ideal_pre_finite_steps (hReference16Ideal := hReference16Ideal) (hPre_finite_steps := hPre_finite_steps)
    ∧ preserves_Kernel_KernelIdeal
    ∧ algebraic_KernelIdeal_ReferenceIdeal_on_latent_rows_pre_finite_scores (hKernelIdeal := hKernelIdeal) (hReferenceIdeal := hReferenceIdeal) (hPre_finite_scores := hPre_finite_scores) (hOn_latent_rows := hOn_latent_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal_pre_finite_steps (hKernel16Ideal := hKernel16Ideal) (hReference16Ideal := hReference16Ideal) (hPre_finite_steps := hPre_finite_steps)
-- ==== On_latent_rows.lean ====
abbrev S16640x4096 : Shape := ⟨2, ![16640, 4096]⟩
abbrev S16640x2048 : Shape := ⟨2, ![16640, 2048]⟩
abbrev S_ : Shape := ⟨0, ![]⟩

class Facts : Prop where
  bcast_S_S16640x2048 : S_.BroadcastsInDim S16640x2048 (![] : Fin 0 → Fin S16640x2048.rank)

variable [Facts]

def fn {F : FTy → Type} [FloatOps F] (main_arg0 : FVec F S16640x4096 .bf16) (main_arg1 : FVec F S16640x4096 .bf16) (main_arg2 : FVec F S16640x2048 .bf16) : IVec S16640x2048 1 :=
  let main_v0 : IVec S16640x2048 32 := iotaInDim S16640x2048 32 0
  let main_c : IVec S_ 32 := constantI S_ 32 16384#32
  let main_v1 : IVec S16640x2048 32 := broadcastInDim S16640x2048 ![] bcast_S_S16640x2048 main_c
  let main_v2 : IVec S16640x2048 1 := cmpi .slt main_v0 main_v1
  main_v2
-- ==== Pre_finite_scores.lean ====
abbrev S16640x4096 : Shape := ⟨2, ![16640, 4096]⟩
abbrev S16640x2048 : Shape := ⟨2, ![16640, 2048]⟩
abbrev S_ : Shape := ⟨0, ![]⟩

class Facts : Prop where
  bitsLt_bf16_f32 : FTy.bits .bf16 < FTy.bits .f32
  bcast_S_S16640x4096 : S_.BroadcastsInDim S16640x4096 (![] : Fin 0 → Fin S16640x4096.rank)
  reducesTo_S16640x4096_S_d0_1 : S16640x4096.ReducesTo [0, 1] S_
  h_S_ : 0 < S_.numel

variable [Facts]

def fn {F : FTy → Type} [FloatOps F] (main_arg0 : FVec F S16640x4096 .bf16) (main_arg1 : FVec F S16640x4096 .bf16) (main_arg2 : FVec F S16640x2048 .bf16) : IVec S_ 1 :=
  let main_v0 : FVec F S16640x4096 .f32 := (extf .f32 · bitsLt_bf16_f32) main_arg0
  let main_v1 : FVec F S16640x4096 .f32 := Host.absf main_v0
  let main_cst : FVec F S_ .f32 := constant S_ .f32 0x7F800000#32
  let main_v2 : FVec F S16640x4096 .f32 := broadcastInDim S16640x4096 ![] bcast_S_S16640x4096 main_cst
  let main_v3 : IVec S16640x4096 1 := cmpf .olt main_v1 main_v2
  let main_c : IVec S_ 1 := constantI S_ 1 1#1
  let main_v4 : IVec S_ 1 := (fun x v => Host.reduce IntOp.andi x v reducesTo_S16640x4096_S_d0_1 h_S_) main_v3 main_c
  let main_v5 : FVec F S16640x4096 .f32 := (extf .f32 · bitsLt_bf16_f32) main_arg1
  let main_v6 : FVec F S16640x4096 .f32 := Host.absf main_v5
  let main_cst_0 : FVec F S_ .f32 := constant S_ .f32 0x7F800000#32
  let main_v7 : FVec F S16640x4096 .f32 := broadcastInDim S16640x4096 ![] bcast_S_S16640x4096 main_cst_0
  let main_v8 : IVec S16640x4096 1 := cmpf .olt main_v6 main_v7
  let main_c_1 : IVec S_ 1 := constantI S_ 1 1#1
  let main_v9 : IVec S_ 1 := (fun x v => Host.reduce IntOp.andi x v reducesTo_S16640x4096_S_d0_1 h_S_) main_v8 main_c_1
  let main_v10 : IVec S_ 1 := andi main_v4 main_v9
  main_v10
-- ==== Pre_finite_steps.lean ====
abbrev S16640x10240 : Shape := ⟨2, ![16640, 10240]⟩
abbrev S16640x256 : Shape := ⟨2, ![16640, 256]⟩
abbrev S_ : Shape := ⟨0, ![]⟩

class Facts : Prop where
  bcast_S_S16640x256 : S_.BroadcastsInDim S16640x256 (![] : Fin 0 → Fin S16640x256.rank)
  reducesTo_S16640x256_S_d0_1 : S16640x256.ReducesTo [0, 1] S_
  h_S_ : 0 < S_.numel

variable [Facts]

def fn {F : FTy → Type} [FloatOps F] (main_arg0 : FVec F S16640x10240 .bf16) (main_arg1 : FVec F S16640x256 .f32) (main_arg2 : FVec F S16640x256 .f32) : IVec S_ 1 :=
  let main_v0 : FVec F S16640x256 .f32 := Host.absf main_arg1
  let main_cst : FVec F S_ .f32 := constant S_ .f32 0x7F800000#32
  let main_v1 : FVec F S16640x256 .f32 := broadcastInDim S16640x256 ![] bcast_S_S16640x256 main_cst
  let main_v2 : IVec S16640x256 1 := cmpf .olt main_v0 main_v1
  let main_c : IVec S_ 1 := constantI S_ 1 1#1
  let main_v3 : IVec S_ 1 := (fun x v => Host.reduce IntOp.andi x v reducesTo_S16640x256_S_d0_1 h_S_) main_v2 main_c
  main_v3
-- ==== Kernel.lean ====
abbrev S16640x4096 : Shape := ⟨2, ![16640, 4096]⟩
abbrev S16640x2048 : Shape := ⟨2, ![16640, 2048]⟩
abbrev S10x1664x16x128 : Shape := ⟨4, ![10, 1664, 16, 128]⟩
abbrev S16x10x128x1664 : Shape := ⟨4, ![16, 10, 128, 1664]⟩
abbrev S2048x256 : Shape := ⟨2, ![2048, 256]⟩
abbrev S16640x256 : Shape := ⟨2, ![16640, 256]⟩
abbrev S1x10x128x1664 : Shape := ⟨4, ![1, 10, 128, 1664]⟩
abbrev S2048x128 : Shape := ⟨2, ![2048, 128]⟩
abbrev S1664x2048 : Shape := ⟨2, ![1664, 2048]⟩
abbrev S1x2048 : Shape := ⟨2, ![1, 2048]⟩
abbrev S256x2048 : Shape := ⟨2, ![256, 2048]⟩
abbrev S128x1664 : Shape := ⟨2, ![128, 1664]⟩
abbrev S1664x256 : Shape := ⟨2, ![1664, 256]⟩
abbrev S2048 : Shape := ⟨1, ![2048]⟩
abbrev S1x1x128x1664 : Shape := ⟨4, ![1, 1, 128, 1664]⟩
abbrev S256x1664 : Shape := ⟨2, ![256, 1664]⟩
abbrev S128x2048 : Shape := ⟨2, ![128, 2048]⟩

abbrev nBuf : Space → Nat
  | .hbm => 6
  | .vmem => 12
  | .smem => 0
  | _ => 0

abbrev bufTy : (tb : Table) → Fin (tcTables nBuf tb) → BufTy
  | .hbm, ⟨0, _⟩ => ⟨S16640x4096, .bf16⟩
  | .hbm, ⟨1, _⟩ => ⟨S16640x4096, .bf16⟩
  | .hbm, ⟨2, _⟩ => ⟨S16640x2048, .bf16⟩
  | .hbm, ⟨3, _⟩ => ⟨S10x1664x16x128, .bf16⟩
  | .hbm, ⟨4, _⟩ => ⟨S16x10x128x1664, .bf16⟩
  | .hbm, ⟨5, _⟩ => ⟨S16640x2048, .bf16⟩
  | .local _ .vmem, ⟨0, _⟩ => ⟨S2048x256, .bf16⟩
  | .local _ .vmem, ⟨1, _⟩ => ⟨S2048x256, .bf16⟩
  | .local _ .vmem, ⟨2, _⟩ => ⟨S16640x256, .bf16⟩
  | .local _ .vmem, ⟨3, _⟩ => ⟨S1x10x128x1664, .bf16⟩
  | .local _ .vmem, ⟨4, _⟩ => ⟨S2048x128, .bf16⟩
  | .local _ .vmem, ⟨5, _⟩ => ⟨S2048x128, .bf16⟩
  | .local _ .vmem, ⟨6, _⟩ => ⟨S1664x2048, .f32⟩
  | .local _ .vmem, ⟨7, _⟩ => ⟨S1664x2048, .f32⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S1x2048, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def k0_mult1 : BitVec 32 :=
  let c0_i32 : BitVec 32 := 0#32
  c0_i32
@[reducible] def k0_t1_loop : Scf.Loop 32 :=
  let c0_i32_14 : BitVec 32 := 0#32
  let c4_i32 : BitVec 32 := 4#32
  let v22 : BitVec 32 := Scalar.addi c0_i32_14 c4_i32
  let c1_i32 : BitVec 32 := 1#32
  ⟨c0_i32_14, v22, c1_i32⟩
def k0_off1 (k0_t1 : Fin k0_t1_loop.trips) : Fin 4 → Nat :=
  let c0_65 : Index := 0#32
  let c2_i32 : BitVec 32 := 2#32
  let c0_i32_14 : BitVec 32 := 0#32
  let c1_i32 : BitVec 32 := 1#32
  let arg12 : BitVec 32 := Scf.iv c0_i32_14 c1_i32 k0_t1
  let v90 : BitVec 32 := Scalar.muli c2_i32 arg12
  let v99 : Index := Scalar.indexCast v90
  let c0_66 : Index := 0#32
  let c0_67 : Index := 0#32
  ![0, v99.toNat, 0, 0]
def k0_mult2 (k0_t1 : Fin k0_t1_loop.trips) : BitVec 32 :=
  let c2_i32_75 : BitVec 32 := 2#32
  let c0_i32_14 : BitVec 32 := 0#32
  let c1_i32 : BitVec 32 := 1#32
  let arg12 : BitVec 32 := Scf.iv c0_i32_14 c1_i32 k0_t1
  let v116 : BitVec 32 := Scalar.muli c2_i32_75 arg12
  let c1_i32_76 : BitVec 32 := 1#32
  let v117 : BitVec 32 := Scalar.addi v116 c1_i32_76
  let c1664_i32 : BitVec 32 := 1664#32
  let v118 : BitVec 32 := Scalar.muli v117 c1664_i32
  v118
def k0_off2 (k0_t1 : Fin k0_t1_loop.trips) (c1_i32_76 : BitVec 32) : Fin 2 → Nat :=
  let c2_i32_75 : BitVec 32 := 2#32
  let c0_i32_14 : BitVec 32 := 0#32
  let c1_i32 : BitVec 32 := 1#32
  let arg12 : BitVec 32 := Scf.iv c0_i32_14 c1_i32 k0_t1
  let v116 : BitVec 32 := Scalar.muli c2_i32_75 arg12
  let v117 : BitVec 32 := Scalar.addi v116 c1_i32_76
  let c1664_i32 : BitVec 32 := 1664#32
  let v118 : BitVec 32 := Scalar.muli v117 c1664_i32
  let v119 : BitVec 32 := v118
  let v120 : Index := Scalar.indexCast v119
  let c0_77 : Index := 0#32
  ![v120.toNat, 0]
def k0_off3 (k0_t1 : Fin k0_t1_loop.trips) : Fin 4 → Nat :=
  let c0_92 : Index := 0#32
  let c2_i32_84 : BitVec 32 := 2#32
  let c0_i32_14 : BitVec 32 := 0#32
  let c1_i32 : BitVec 32 := 1#32
  let arg12 : BitVec 32 := Scf.iv c0_i32_14 c1_i32 k0_t1
  let v131 : BitVec 32 := Scalar.muli c2_i32_84 arg12
  let c1_i32_85 : BitVec 32 := 1#32
  let v132 : BitVec 32 := Scalar.addi v131 c1_i32_85
  let v141 : Index := Scalar.indexCast v132
  let c0_93 : Index := 0#32
  let c0_94 : Index := 0#32
  ![0, v141.toNat, 0, 0]
def k0_mult3 (k0_t1 : Fin k0_t1_loop.trips) : BitVec 32 :=
  let c2_i32_102 : BitVec 32 := 2#32
  let c0_i32_14 : BitVec 32 := 0#32
  let c1_i32 : BitVec 32 := 1#32
  let arg12 : BitVec 32 := Scf.iv c0_i32_14 c1_i32 k0_t1
  let v158 : BitVec 32 := Scalar.muli c2_i32_102 arg12
  let c2_i32_103 : BitVec 32 := 2#32
  let v159 : BitVec 32 := Scalar.addi v158 c2_i32_103
  let c1664_i32_104 : BitVec 32 := 1664#32
  let v160 : BitVec 32 := Scalar.muli v159 c1664_i32_104
  v160
def k0_mult4 : BitVec 32 :=
  let c14976_i32 : BitVec 32 := 14976#32
  c14976_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16640x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x10x128x1664 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16640x4096 : Shape := ⟨2, ![16640, 4096]⟩
abbrev S16640x2048 : Shape := ⟨2, ![16640, 2048]⟩
abbrev S16640x16x256 : Shape := ⟨3, ![16640, 16, 256]⟩
abbrev S16640x16x128 : Shape := ⟨3, ![16640, 16, 128]⟩
abbrev S16x16640x16640 : Shape := ⟨3, ![16, 16640, 16640]⟩
abbrev S_ : Shape := ⟨0, ![]⟩
abbrev S16x16640 : Shape := ⟨2, ![16, 16640]⟩
abbrev S16x16640x1 : Shape := ⟨3, ![16, 16640, 1]⟩
abbrev S16x128x16640 : Shape := ⟨3, ![16, 128, 16640]⟩

abbrev nBuf : Space → Nat
  | .hbm => 25
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S16640x4096, .bf16⟩
  | .hbm, ⟨2, _⟩ => ⟨S16640x2048, .bf16⟩
  | .hbm, ⟨3, _⟩ => ⟨S16640x16x256, .bf16⟩
  | .hbm, ⟨4, _⟩ => ⟨S16640x16x256, .bf16⟩
  | .hbm, ⟨5, _⟩ => ⟨S16640x16x128, .bf16⟩
  | .hbm, ⟨6, _⟩ => ⟨S16x16640x16640, .f32⟩
  | .hbm, ⟨7, _⟩ => ⟨S_, .f32⟩
  | .hbm, ⟨8, _⟩ => ⟨S16x16640, .f32⟩
  | .hbm, ⟨9, _⟩ => ⟨S16x16640x1, .f32⟩
  | .hbm, ⟨10, _⟩ => ⟨S16x16640x16640, .f32⟩
  | .hbm, ⟨11, _⟩ => ⟨S16x16640x16640, .f32⟩
  | .hbm, ⟨12, _⟩ => ⟨S_, .f32⟩
  | .hbm, ⟨13, _⟩ => ⟨S16x16640x16640, .f32⟩
  | .hbm, ⟨14, _⟩ => ⟨S16x16640x16640, .f32⟩
  | .hbm, ⟨15, _⟩ => ⟨S_, .f32⟩
  | .hbm, ⟨16, _⟩ => ⟨S16x16640, .f32⟩
  | .hbm, ⟨17, _⟩ => ⟨S16x16640x1, .f32⟩
  | .hbm, ⟨18, _⟩ => ⟨S16x16640x16640, .f32⟩
  | .hbm, ⟨19, _⟩ => ⟨S16x16640x16640, .f32⟩
  | .hbm, ⟨20, _⟩ => ⟨S16x16640x16640, .bf16⟩
  | .hbm, ⟨21, _⟩ => ⟨S16x128x16640, .f32⟩
  | .hbm, ⟨22, _⟩ => ⟨S16640x16x128, .f32⟩
  | .hbm, ⟨23, _⟩ => ⟨S16640x16x128, .bf16⟩
  | .hbm, ⟨24, _⟩ => ⟨S16640x2048, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel2.lean ====
abbrev S16640x4096 : Shape := ⟨2, ![16640, 4096]⟩
abbrev S2x4096x11008 : Shape := ⟨3, ![2, 4096, 11008]⟩
abbrev S16640x11008 : Shape := ⟨2, ![16640, 11008]⟩
abbrev S1280x4096 : Shape := ⟨2, ![1280, 4096]⟩
abbrev S1x4096x256 : Shape := ⟨3, ![1, 4096, 256]⟩
abbrev S1280x256 : Shape := ⟨2, ![1280, 256]⟩
abbrev S4096x256 : Shape := ⟨2, ![4096, 256]⟩

abbrev nBuf : Space → Nat
  | .hbm => 4
  | .vmem => 8
  | .smem => 0
  | _ => 0

abbrev bufTy : (tb : Table) → Fin (tcTables nBuf tb) → BufTy
  | .hbm, ⟨0, _⟩ => ⟨S16640x4096, .bf16⟩
  | .hbm, ⟨1, _⟩ => ⟨S2x4096x11008, .f32⟩
  | .hbm, ⟨2, _⟩ => ⟨S2x4096x11008, .f32⟩
  | .hbm, ⟨3, _⟩ => ⟨S16640x11008, .bf16⟩
  | .local _ .vmem, ⟨0, _⟩ => ⟨S1280x4096, .bf16⟩
  | .local _ .vmem, ⟨1, _⟩ => ⟨S1280x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1280x256, .bf16⟩
  | .local _ .vmem, ⟨7, _⟩ => ⟨S1280x256, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![13, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1280x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16640x4096 : Shape := ⟨2, ![16640, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S16640x11008 : Shape := ⟨2, ![16640, 11008]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S2x4096x11008, .f32⟩
  | .hbm, ⟨2, _⟩ => ⟨S2x4096x11008, .f32⟩
  | .hbm, ⟨3, _⟩ => ⟨S16640x4096, .f32⟩
  | .hbm, ⟨4, _⟩ => ⟨S1x4096x11008, .f32⟩
  | .hbm, ⟨5, _⟩ => ⟨S4096x11008, .f32⟩
  | .hbm, ⟨6, _⟩ => ⟨S16640x11008, .f32⟩
  | .hbm, ⟨7, _⟩ => ⟨S16640x11008, .f32⟩
  | .hbm, ⟨8, _⟩ => ⟨S16640x11008, .f32⟩
  | .hbm, ⟨9, _⟩ => ⟨S_, .f32⟩
  | .hbm, ⟨10, _⟩ => ⟨S16640x11008, .f32⟩
  | .hbm, ⟨11, _⟩ => ⟨S16640x11008, .f32⟩
  | .hbm, ⟨12, _⟩ => ⟨S_, .f32⟩
  | .hbm, ⟨13, _⟩ => ⟨S16640x11008, .f32⟩
  | .hbm, ⟨14, _⟩ => ⟨S16640x11008, .f32⟩
  | .hbm, ⟨15, _⟩ => ⟨S16640x11008, .f32⟩
  | .hbm, ⟨16, _⟩ => ⟨S1x4096x11008, .f32⟩
  | .hbm, ⟨17, _⟩ => ⟨S4096x11008, .f32⟩
  | .hbm, ⟨18, _⟩ => ⟨S16640x11008, .f32⟩
  | .hbm, ⟨19, _⟩ => ⟨S16640x11008, .f32⟩
  | .hbm, ⟨20, _⟩ => ⟨S16640x11008, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel3.lean ====
abbrev S16640x11008 : Shape := ⟨2, ![16640, 11008]⟩
abbrev S2x11008x4096 : Shape := ⟨3, ![2, 11008, 4096]⟩
abbrev S16640x4096 : Shape := ⟨2, ![16640, 4096]⟩
abbrev S8x24576 : Shape := ⟨2, ![8, 24576]⟩
abbrev S1x11008x4096 : Shape := ⟨3, ![1, 11008, 4096]⟩
abbrev S11008x4096 : Shape := ⟨2, ![11008, 4096]⟩
abbrev S640x11008 : Shape := ⟨2, ![640, 11008]⟩
abbrev S11008x256 : Shape := ⟨2, ![11008, 256]⟩
abbrev S640x256 : Shape := ⟨2, ![640, 256]⟩
abbrev S8x256 : Shape := ⟨2, ![8, 256]⟩
abbrev S640x1 : Shape := ⟨2, ![640, 1]⟩
abbrev S1x256 : Shape := ⟨2, ![1, 256]⟩

abbrev nBuf : Space → Nat
  | .hbm => 8
  | .vmem => 10
  | .smem => 0
  | _ => 0

abbrev bufTy : (tb : Table) → Fin (tcTables nBuf tb) → BufTy
  | .hbm, ⟨0, _⟩ => ⟨S16640x11008, .bf16⟩
  | .hbm, ⟨1, _⟩ => ⟨S2x11008x4096, .f32⟩
  | .hbm, ⟨2, _⟩ => ⟨S16640x4096, .f32⟩
  | .hbm, ⟨3, _⟩ => ⟨S8x24576, .f32⟩
  | .hbm, ⟨4, _⟩ => ⟨S1x11008x4096, .f32⟩
  | .hbm, ⟨5, _⟩ => ⟨S11008x4096, .f32⟩
  | .hbm, ⟨6, _⟩ => ⟨S11008x4096, .bf16⟩
  | .hbm, ⟨7, _⟩ => ⟨S16640x4096, .f32⟩
  | .local _ .vmem, ⟨0, _⟩ => ⟨S640x11008, .bf16⟩
  | .local _ .vmem, ⟨1, _⟩ => ⟨S640x11008, .bf16⟩
  | .local _ .vmem, ⟨2, _⟩ => ⟨S11008x256, .bf16⟩
  | .local _ .vmem, ⟨3, _⟩ => ⟨S11008x256, .bf16⟩
  | .local _ .vmem, ⟨4, _⟩ => ⟨S640x256, .f32⟩
  | .local _ .vmem, ⟨5, _⟩ => ⟨S640x256, .f32⟩
  | .local _ .vmem, ⟨6, _⟩ => ⟨S8x256, .f32⟩
  | .local _ .vmem, ⟨7, _⟩ => ⟨S8x256, .f32⟩
  | .local _ .vmem, ⟨8, _⟩ => ⟨S640x256, .f32⟩
  | .local _ .vmem, ⟨9, _⟩ => ⟨S640x256, .f32⟩
  | _, _ => ⟨S16640x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![26, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c80_i32 : BitVec 32 := 80#32
  let v0 : BitVec 32 := Scalar.addi c80_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S640x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S640x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S640x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S16640x11008 : Shape := ⟨2, ![16640, 11008]⟩
abbrev S2x11008x4096 : Shape := ⟨3, ![2, 11008, 4096]⟩
abbrev S16640x4096 : Shape := ⟨2, ![16640, 4096]⟩
abbrev S8x24576 : Shape := ⟨2, ![8, 24576]⟩
abbrev S1x11008x4096 : Shape := ⟨3, ![1, 11008, 4096]⟩
abbrev S11008x4096 : Shape := ⟨2, ![11008, 4096]⟩
abbrev S8x4096 : Shape := ⟨2, ![8, 4096]⟩
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16640x11008, .bf16⟩
  | .hbm, ⟨1, _⟩ => ⟨S2x11008x4096, .f32⟩
  | .hbm, ⟨2, _⟩ => ⟨S16640x4096, .f32⟩
  | .hbm, ⟨3, _⟩ => ⟨S8x24576, .f32⟩
  | .hbm, ⟨4, _⟩ => ⟨S16640x11008, .f32⟩
  | .hbm, ⟨5, _⟩ => ⟨S1x11008x4096, .f32⟩
  | .hbm, ⟨6, _⟩ => ⟨S11008x4096, .f32⟩
  | .hbm, ⟨7, _⟩ => ⟨S16640x4096, .f32⟩
  | .hbm, ⟨8, _⟩ => ⟨S8x4096, .f32⟩
  | .hbm, ⟨9, _⟩ => ⟨S16384x4096, .f32⟩
  | .hbm, ⟨10, _⟩ => ⟨S1x4096, .f32⟩
  | .hbm, ⟨11, _⟩ => ⟨S4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S256x4096, .f32⟩
  | .hbm, ⟨18, _⟩ => ⟨S1x4096, .f32⟩
  | .hbm, ⟨19, _⟩ => ⟨S4096, .f32⟩
  | .hbm, ⟨20, _⟩ => ⟨S256x4096, .f32⟩
  | .hbm, ⟨21, _⟩ => ⟨S1x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S16640x4096, .f32⟩
  | _, _ => ⟨S16640x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel4.lean ====
abbrev S16640x4096 : Shape := ⟨2, ![16640, 4096]⟩
abbrev S1x4096x18688 : Shape := ⟨3, ![1, 4096, 18688]⟩
abbrev S16640x8192 : Shape := ⟨2, ![16640, 8192]⟩
abbrev S1280x4096 : Shape := ⟨2, ![1280, 4096]⟩
abbrev S1x4096x512 : Shape := ⟨3, ![1, 4096, 512]⟩
abbrev S1280x512 : Shape := ⟨2, ![1280, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S1x4096x18688, .f32⟩
  | .hbm, ⟨2, _⟩ => ⟨S16640x8192, .bf16⟩
  | .local _ .vmem, ⟨0, _⟩ => ⟨S1280x4096, .bf16⟩
  | .local _ .vmem, ⟨1, _⟩ => ⟨S1280x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1280x512, .bf16⟩
  | .local _ .vmem, ⟨5, _⟩ => ⟨S1280x512, .bf16⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16640x4096 : Shape := ⟨2, ![16640, 4096]⟩
abbrev S1x4096x18688 : Shape := ⟨3, ![1, 4096, 18688]⟩
abbrev S4096x18688 : Shape := ⟨2, ![4096, 18688]⟩
abbrev S16640x18688 : Shape := ⟨2, ![16640, 18688]⟩
abbrev S16640x8192 : Shape := ⟨2, ![16640, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S1x4096x18688, .f32⟩
  | .hbm, ⟨2, _⟩ => ⟨S16640x4096, .f32⟩
  | .hbm, ⟨3, _⟩ => ⟨S4096x18688, .f32⟩
  | .hbm, ⟨4, _⟩ => ⟨S16640x18688, .f32⟩
  | .hbm, ⟨5, _⟩ => ⟨S16640x8192, .f32⟩
  | .hbm, ⟨6, _⟩ => ⟨S16640x8192, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel5.lean ====
abbrev S16640x4096 : Shape := ⟨2, ![16640, 4096]⟩
abbrev S1x4096x18688 : Shape := ⟨3, ![1, 4096, 18688]⟩
abbrev S16640x10240 : Shape := ⟨2, ![16640, 10240]⟩
abbrev S1280x4096 : Shape := ⟨2, ![1280, 4096]⟩
abbrev S1x4096x512 : Shape := ⟨3, ![1, 4096, 512]⟩
abbrev S1280x512 : Shape := ⟨2, ![1280, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S1x4096x18688, .f32⟩
  | .hbm, ⟨2, _⟩ => ⟨S16640x10240, .f32⟩
  | .local _ .vmem, ⟨0, _⟩ => ⟨S1280x4096, .bf16⟩
  | .local _ .vmem, ⟨1, _⟩ => ⟨S1280x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1280x512, .f32⟩
  | .local _ .vmem, ⟨5, _⟩ => ⟨S1280x512, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S16640x4096 : Shape := ⟨2, ![16640, 4096]⟩
abbrev S1x4096x18688 : Shape := ⟨3, ![1, 4096, 18688]⟩
abbrev S4096x18688 : Shape := ⟨2, ![4096, 18688]⟩
abbrev S16640x18688 : Shape := ⟨2, ![16640, 18688]⟩
abbrev S16640x10240 : Shape := ⟨2, ![16640, 10240]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S1x4096x18688, .f32⟩
  | .hbm, ⟨2, _⟩ => ⟨S16640x4096, .f32⟩
  | .hbm, ⟨3, _⟩ => ⟨S4096x18688, .f32⟩
  | .hbm, ⟨4, _⟩ => ⟨S16640x18688, .f32⟩
  | .hbm, ⟨5, _⟩ => ⟨S16640x10240, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S16640x4096 : Shape := ⟨2, ![16640, 4096]⟩
abbrev S1x4096x18688 : Shape := ⟨3, ![1, 4096, 18688]⟩
abbrev S16640x256 : Shape := ⟨2, ![16640, 256]⟩
abbrev S1280x4096 : Shape := ⟨2, ![1280, 4096]⟩
abbrev S1x4096x256 : Shape := ⟨3, ![1, 4096, 256]⟩
abbrev S1280x256 : Shape := ⟨2, ![1280, 256]⟩
abbrev S4096x256 : Shape := ⟨2, ![4096, 256]⟩

abbrev nBuf : Space → Nat
  | .hbm => 3
  | .vmem => 5
  | .smem => 0
  | _ => 0

abbrev bufTy : (tb : Table) → Fin (tcTables nBuf tb) → BufTy
  | .hbm, ⟨0, _⟩ => ⟨S16640x4096, .bf16⟩
  | .hbm, ⟨1, _⟩ => ⟨S1x4096x18688, .f32⟩
  | .hbm, ⟨2, _⟩ => ⟨S16640x256, .f32⟩
  | .local _ .vmem, ⟨0, _⟩ => ⟨S1280x4096, .bf16⟩
  | .local _ .vmem, ⟨1, _⟩ => ⟨S1280x4096, .bf16⟩
  | .local _ .vmem, ⟨2, _⟩ => ⟨S1x4096x256, .f32⟩
  | .local _ .vmem, ⟨3, _⟩ => ⟨S1280x256, .f32⟩
  | .local _ .vmem, ⟨4, _⟩ => ⟨S1280x256, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![13, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c72_i32 : BitVec 32 := 72#32
  let v0 : BitVec 32 := Scalar.addi c72_i32 arg1
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1280x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S16640x4096 : Shape := ⟨2, ![16640, 4096]⟩
abbrev S1x4096x18688 : Shape := ⟨3, ![1, 4096, 18688]⟩
abbrev S4096x18688 : Shape := ⟨2, ![4096, 18688]⟩
abbrev S16640x18688 : Shape := ⟨2, ![16640, 18688]⟩
abbrev S16640x256 : Shape := ⟨2, ![16640, 256]⟩

abbrev nBuf : Space → Nat
  | .hbm => 6
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S1x4096x18688, .f32⟩
  | .hbm, ⟨2, _⟩ => ⟨S16640x4096, .f32⟩
  | .hbm, ⟨3, _⟩ => ⟨S4096x18688, .f32⟩
  | .hbm, ⟨4, _⟩ => ⟨S16640x18688, .f32⟩
  | .hbm, ⟨5, _⟩ => ⟨S16640x256, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16384x8192 : Shape := ⟨2, ![16384, 8192]⟩
abbrev S8192x4096 : Shape := ⟨2, ![8192, 4096]⟩
abbrev S16640x4096 : Shape := ⟨2, ![16640, 4096]⟩
abbrev S8x24576 : Shape := ⟨2, ![8, 24576]⟩
abbrev S16384x4096 : Shape := ⟨2, ![16384, 4096]⟩
abbrev S1024x8192 : Shape := ⟨2, ![1024, 8192]⟩
abbrev S8192x256 : Shape := ⟨2, ![8192, 256]⟩
abbrev S1024x256 : Shape := ⟨2, ![1024, 256]⟩
abbrev S8x256 : Shape := ⟨2, ![8, 256]⟩
abbrev S1024x1 : Shape := ⟨2, ![1024, 1]⟩
abbrev S1x256 : Shape := ⟨2, ![1, 256]⟩

abbrev nBuf : Space → Nat
  | .hbm => 6
  | .vmem => 10
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .f32⟩
  | .hbm, ⟨2, _⟩ => ⟨S16640x4096, .f32⟩
  | .hbm, ⟨3, _⟩ => ⟨S8x24576, .f32⟩
  | .hbm, ⟨4, _⟩ => ⟨S8192x4096, .bf16⟩
  | .hbm, ⟨5, _⟩ => ⟨S16384x4096, .f32⟩
  | .local _ .vmem, ⟨0, _⟩ => ⟨S1024x8192, .bf16⟩
  | .local _ .vmem, ⟨1, _⟩ => ⟨S1024x8192, .bf16⟩
  | .local _ .vmem, ⟨2, _⟩ => ⟨S8192x256, .bf16⟩
  | .local _ .vmem, ⟨3, _⟩ => ⟨S8192x256, .bf16⟩
  | .local _ .vmem, ⟨4, _⟩ => ⟨S1024x256, .f32⟩
  | .local _ .vmem, ⟨5, _⟩ => ⟨S1024x256, .f32⟩
  | .local _ .vmem, ⟨6, _⟩ => ⟨S8x256, .f32⟩
  | .local _ .vmem, ⟨7, _⟩ => ⟨S8x256, .f32⟩
  | .local _ .vmem, ⟨8, _⟩ => ⟨S1024x256, .f32⟩
  | .local _ .vmem, ⟨9, _⟩ => ⟨S1024x256, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S16384x8192 : Shape := ⟨2, ![16384, 8192]⟩
abbrev S8192x4096 : Shape := ⟨2, ![8192, 4096]⟩
abbrev S16640x4096 : Shape := ⟨2, ![16640, 4096]⟩
abbrev S8x24576 : Shape := ⟨2, ![8, 24576]⟩
abbrev S16384x4096 : Shape := ⟨2, ![16384, 4096]⟩
abbrev S1x4096 : Shape := ⟨2, ![1, 4096]⟩
abbrev S4096 : Shape := ⟨1, ![4096]⟩

abbrev nBuf : Space → Nat
  | .hbm => 13
  | .vmem => 0
  | .smem => 0
  | _ => 0

abbrev bufTy : (tb : Table) → Fin (tcTables nBuf tb) → BufTy
  | .hbm, ⟨0, _⟩ => ⟨S16384x8192, .bf16⟩
  | .hbm, ⟨1, _⟩ => ⟨S8192x4096, .f32⟩
  | .hbm, ⟨2, _⟩ => ⟨S16640x4096, .f32⟩
  | .hbm, ⟨3, _⟩ => ⟨S8x24576, .f32⟩
  | .hbm, ⟨4, _⟩ => ⟨S16384x4096, .f32⟩
  | .hbm, ⟨5, _⟩ => ⟨S1x4096, .f32⟩
  | .hbm, ⟨6, _⟩ => ⟨S4096, .f32⟩
  | .hbm, ⟨7, _⟩ => ⟨S16384x8192, .f32⟩
  | .hbm, ⟨8, _⟩ => ⟨S16384x4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel8.lean ====
abbrev S16640x4096 : Shape := ⟨2, ![16640, 4096]⟩
abbrev S4096x5760 : Shape := ⟨2, ![4096, 5760]⟩
abbrev S16640x5760 : Shape := ⟨2, ![16640, 5760]⟩
abbrev S1280x4096 : Shape := ⟨2, ![1280, 4096]⟩
abbrev S4096x640 : Shape := ⟨2, ![4096, 640]⟩
abbrev S1280x640 : Shape := ⟨2, ![1280, 640]⟩

abbrev nBuf : Space → Nat
  | .hbm => 3
  | .vmem => 6
  | .smem => 0
  | _ => 0

abbrev bufTy : (tb : Table) → Fin (tcTables nBuf tb) → BufTy
  | .hbm, ⟨0, _⟩ => ⟨S16640x4096, .bf16⟩
  | .hbm, ⟨1, _⟩ => ⟨S4096x5760, .bf16⟩
  | .hbm, ⟨2, _⟩ => ⟨S16640x5760, .f32⟩
  | .local _ .vmem, ⟨0, _⟩ => ⟨S1280x4096, .bf16⟩
  | .local _ .vmem, ⟨1, _⟩ => ⟨S1280x4096, .bf16⟩
  | .local _ .vmem, ⟨2, _⟩ => ⟨S4096x640, .bf16⟩
  | .local _ .vmem, ⟨3, _⟩ => ⟨S4096x640, .bf16⟩
  | .local _ .vmem, ⟨4, _⟩ => ⟨S1280x640, .f32⟩
  | .local _ .vmem, ⟨5, _⟩ => ⟨S1280x640, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16640x4096 : Shape := ⟨2, ![16640, 4096]⟩
abbrev S4096x5760 : Shape := ⟨2, ![4096, 5760]⟩
abbrev S16640x5760 : Shape := ⟨2, ![16640, 5760]⟩

abbrev nBuf : Space → Nat
  | .hbm => 5
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S4096x5760, .bf16⟩
  | .hbm, ⟨2, _⟩ => ⟨S16640x4096, .f32⟩
  | .hbm, ⟨3, _⟩ => ⟨S4096x5760, .f32⟩
  | .hbm, ⟨4, _⟩ => ⟨S16640x5760, .f32⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S16640x2048 : Shape := ⟨2, ![16640, 2048]⟩
abbrev S4096x4096 : Shape := ⟨2, ![4096, 4096]⟩
abbrev S16640x4096 : Shape := ⟨2, ![16640, 4096]⟩
abbrev S8x24576 : Shape := ⟨2, ![8, 24576]⟩
abbrev S2048x4096 : Shape := ⟨2, ![2048, 4096]⟩
abbrev S1280x2048 : Shape := ⟨2, ![1280, 2048]⟩
abbrev S2048x512 : Shape := ⟨2, ![2048, 512]⟩
abbrev S1280x512 : Shape := ⟨2, ![1280, 512]⟩
abbrev S8x512 : Shape := ⟨2, ![8, 512]⟩
abbrev S1280x1 : Shape := ⟨2, ![1280, 1]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S4096x4096, .f32⟩
  | .hbm, ⟨3, _⟩ => ⟨S16640x4096, .f32⟩
  | .hbm, ⟨4, _⟩ => ⟨S8x24576, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S16640x4096, .f32⟩
  | .local _ .vmem, ⟨0, _⟩ => ⟨S1280x2048, .bf16⟩
  | .local _ .vmem, ⟨1, _⟩ => ⟨S1280x2048, .bf16⟩
  | .local _ .vmem, ⟨2, _⟩ => ⟨S1280x2048, .bf16⟩
  | .local _ .vmem, ⟨3, _⟩ => ⟨S1280x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1280x512, .f32⟩
  | .local _ .vmem, ⟨9, _⟩ => ⟨S1280x512, .f32⟩
  | .local _ .vmem, ⟨10, _⟩ => ⟨S8x512, .f32⟩
  | .local _ .vmem, ⟨11, _⟩ => ⟨S8x512, .f32⟩
  | .local _ .vmem, ⟨12, _⟩ => ⟨S1280x512, .f32⟩
  | .local _ .vmem, ⟨13, _⟩ => ⟨S1280x512, .f32⟩
  | _, _ => ⟨S16640x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1280x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference9Ideal.lean ====
abbrev S16640x2048 : Shape := ⟨2, ![16640, 2048]⟩
abbrev S4096x4096 : Shape := ⟨2, ![4096, 4096]⟩
abbrev S16640x4096 : Shape := ⟨2, ![16640, 4096]⟩
abbrev S8x24576 : Shape := ⟨2, ![8, 24576]⟩
abbrev S8x4096 : Shape := ⟨2, ![8, 4096]⟩
abbrev S16384x4096 : Shape := ⟨2, ![16384, 4096]⟩
abbrev S1x4096 : Shape := ⟨2, ![1, 4096]⟩
abbrev S4096 : Shape := ⟨1, ![4096]⟩
abbrev S256x4096 : Shape := ⟨2, ![256, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16640x2048, .bf16⟩
  | .hbm, ⟨1, _⟩ => ⟨S16640x2048, .bf16⟩
  | .hbm, ⟨2, _⟩ => ⟨S4096x4096, .f32⟩
  | .hbm, ⟨3, _⟩ => ⟨S16640x4096, .f32⟩
  | .hbm, ⟨4, _⟩ => ⟨S8x24576, .f32⟩
  | .hbm, ⟨5, _⟩ => ⟨S16640x4096, .bf16⟩
  | .hbm, ⟨6, _⟩ => ⟨S16640x4096, .f32⟩
  | .hbm, ⟨7, _⟩ => ⟨S16640x4096, .f32⟩
  | .hbm, ⟨8, _⟩ => ⟨S8x4096, .f32⟩
  | .hbm, ⟨9, _⟩ => ⟨S16384x4096, .f32⟩
  | .hbm, ⟨10, _⟩ => ⟨S1x4096, .f32⟩
  | .hbm, ⟨11, _⟩ => ⟨S4096, .f32⟩
  | .hbm, ⟨12, _⟩ => ⟨S16384x4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S256x4096, .f32⟩
  | .hbm, ⟨18, _⟩ => ⟨S1x4096, .f32⟩
  | .hbm, ⟨19, _⟩ => ⟨S4096, .f32⟩
  | .hbm, ⟨20, _⟩ => ⟨S256x4096, .f32⟩
  | .hbm, ⟨21, _⟩ => ⟨S1x4096, .f32⟩
  | .hbm, ⟨22, _⟩ => ⟨S256x4096, .f32⟩
  | .hbm, ⟨23, _⟩ => ⟨S256x4096, .f32⟩
  | .hbm, ⟨24, _⟩ => ⟨S256x4096, .f32⟩
  | .hbm, ⟨25, _⟩ => ⟨S16640x4096, .f32⟩
  | _, _ => ⟨S16640x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel10.lean ====
abbrev S16384x4096 : Shape := ⟨2, ![16384, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel11.lean ====
abbrev S16640x4096 : Shape := ⟨2, ![16640, 4096]⟩
abbrev S4096 : Shape := ⟨1, ![4096]⟩
abbrev S8x24576 : Shape := ⟨2, ![8, 24576]⟩
abbrev S1x4096 : Shape := ⟨2, ![1, 4096]⟩
abbrev S320x4096 : Shape := ⟨2, ![320, 4096]⟩
abbrev S8x4096 : Shape := ⟨2, ![8, 4096]⟩
abbrev S320 : Shape := ⟨1, ![320]⟩
abbrev S320x1 : Shape := ⟨2, ![320, 1]⟩

abbrev nBuf : Space → Nat
  | .hbm => 5
  | .vmem => 7
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S8x24576, .f32⟩
  | .hbm, ⟨3, _⟩ => ⟨S1x4096, .f32⟩
  | .hbm, ⟨4, _⟩ => ⟨S16640x4096, .bf16⟩
  | .local _ .vmem, ⟨0, _⟩ => ⟨S320x4096, .f32⟩
  | .local _ .vmem, ⟨1, _⟩ => ⟨S320x4096, .f32⟩
  | .local _ .vmem, ⟨2, _⟩ => ⟨S1x4096, .f32⟩
  | .local _ .vmem, ⟨3, _⟩ => ⟨S8x4096, .f32⟩
  | .local _ .vmem, ⟨4, _⟩ => ⟨S8x4096, .f32⟩
  | .local _ .vmem, ⟨5, _⟩ => ⟨S320x4096, .bf16⟩
  | .local _ .vmem, ⟨6, _⟩ => ⟨S320x4096, .bf16⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![52], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S320x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference11Ideal.lean ====
abbrev S16640x4096 : Shape := ⟨2, ![16640, 4096]⟩
abbrev S4096 : Shape := ⟨1, ![4096]⟩
abbrev S8x24576 : Shape := ⟨2, ![8, 24576]⟩
abbrev S_ : Shape := ⟨0, ![]⟩
abbrev S16640 : Shape := ⟨1, ![16640]⟩
abbrev S16640x1 : Shape := ⟨2, ![16640, 1]⟩
abbrev S1x4096 : Shape := ⟨2, ![1, 4096]⟩
abbrev S8x4096 : Shape := ⟨2, ![8, 4096]⟩
abbrev S16384x4096 : Shape := ⟨2, ![16384, 4096]⟩
abbrev S256x4096 : Shape := ⟨2, ![256, 4096]⟩

abbrev nBuf : Space → Nat
  | .hbm => 51
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S8x24576, .f32⟩
  | .hbm, ⟨3, _⟩ => ⟨S16640x4096, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x4096, .f32⟩
  | .hbm, ⟨15, _⟩ => ⟨S16640x4096, .f32⟩
  | .hbm, ⟨16, _⟩ => ⟨S1x4096, .f32⟩
  | .hbm, ⟨17, _⟩ => ⟨S16640x4096, .f32⟩
  | .hbm, ⟨18, _⟩ => ⟨S16640x4096, .f32⟩
  | .hbm, ⟨19, _⟩ => ⟨S8x4096, .f32⟩
  | .hbm, ⟨20, _⟩ => ⟨S8x4096, .f32⟩
  | .hbm, ⟨21, _⟩ => ⟨S16384x4096, .f32⟩
  | .hbm, ⟨22, _⟩ => ⟨S1x4096, .f32⟩
  | .hbm, ⟨23, _⟩ => ⟨S4096, .f32⟩
  | .hbm, ⟨24, _⟩ => ⟨S_, .f32⟩
  | .hbm, ⟨25, _⟩ => ⟨S4096, .f32⟩
  | .hbm, ⟨26, _⟩ => ⟨S4096, .f32⟩
  | .hbm, ⟨27, _⟩ => ⟨S1x4096, .f32⟩
  | .hbm, ⟨28, _⟩ => ⟨S16384x4096, .f32⟩
  | .hbm, ⟨29, _⟩ => ⟨S16384x4096, .f32⟩
  | .hbm, ⟨30, _⟩ => ⟨S1x4096, .f32⟩
  | .hbm, ⟨31, _⟩ => ⟨S4096, .f32⟩
  | .hbm, ⟨32, _⟩ => ⟨S1x4096, .f32⟩
  | .hbm, ⟨33, _⟩ => ⟨S16384x4096, .f32⟩
  | .hbm, ⟨34, _⟩ => ⟨S16384x4096, .f32⟩
  | .hbm, ⟨35, _⟩ => ⟨S256x4096, .f32⟩
  | .hbm, ⟨36, _⟩ => ⟨S1x4096, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S1x4096, .f32⟩
  | .hbm, ⟨42, _⟩ => ⟨S256x4096, .f32⟩
  | .hbm, ⟨43, _⟩ => ⟨S256x4096, .f32⟩
  | .hbm, ⟨44, _⟩ => ⟨S1x4096, .f32⟩
  | .hbm, ⟨45, _⟩ => ⟨S4096, .f32⟩
  | .hbm, ⟨46, _⟩ => ⟨S1x4096, .f32⟩
  | .hbm, ⟨47, _⟩ => ⟨S256x4096, .f32⟩
  | .hbm, ⟨48, _⟩ => ⟨S256x4096, .f32⟩
  | .hbm, ⟨49, _⟩ => ⟨S16640x4096, .f32⟩
  | .hbm, ⟨50, _⟩ => ⟨S16640x4096, .bf16⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel12.lean ====
abbrev S2x16640x8192 : Shape := ⟨3, ![2, 16640, 8192]⟩
abbrev S16640x10240 : Shape := ⟨2, ![16640, 10240]⟩
abbrev S16640x8192 : Shape := ⟨2, ![16640, 8192]⟩
abbrev S128 : Shape := ⟨1, ![128]⟩
abbrev S8192 : Shape := ⟨1, ![8192]⟩
abbrev S128x64 : Shape := ⟨2, ![128, 64]⟩
abbrev S1x8192 : Shape := ⟨2, ![1, 8192]⟩
abbrev S16384x8192 : Shape := ⟨2, ![16384, 8192]⟩
abbrev S1x128x8192 : Shape := ⟨3, ![1, 128, 8192]⟩
abbrev S128x8192 : Shape := ⟨2, ![128, 8192]⟩
abbrev S128x1 : Shape := ⟨2, ![128, 1]⟩

abbrev nBuf : Space → Nat
  | .hbm => 10
  | .vmem => 12
  | .smem => 0
  | _ => 0

abbrev bufTy : (tb : Table) → Fin (tcTables nBuf tb) → BufTy
  | .hbm, ⟨0, _⟩ => ⟨S2x16640x8192, .bf16⟩
  | .hbm, ⟨1, _⟩ => ⟨S16640x10240, .bf16⟩
  | .hbm, ⟨2, _⟩ => ⟨S16640x8192, .bf16⟩
  | .hbm, ⟨3, _⟩ => ⟨S128, .f32⟩
  | .hbm, ⟨4, _⟩ => ⟨S8192, .f32⟩
  | .hbm, ⟨5, _⟩ => ⟨S128x64, .f32⟩
  | .hbm, ⟨6, _⟩ => ⟨S8192, .f32⟩
  | .hbm, ⟨7, _⟩ => ⟨S1x8192, .f32⟩
  | .hbm, ⟨8, _⟩ => ⟨S1x8192, .f32⟩
  | .hbm, ⟨9, _⟩ => ⟨S16384x8192, .bf16⟩
  | .local _ .vmem, ⟨0, _⟩ => ⟨S1x128x8192, .bf16⟩
  | .local _ .vmem, ⟨1, _⟩ => ⟨S1x128x8192, .bf16⟩
  | .local _ .vmem, ⟨2, _⟩ => ⟨S1x128x8192, .bf16⟩
  | .local _ .vmem, ⟨3, _⟩ => ⟨S1x128x8192, .bf16⟩
  | .local _ .vmem, ⟨4, _⟩ => ⟨S128x8192, .bf16⟩
  | .local _ .vmem, ⟨5, _⟩ => ⟨S128x8192, .bf16⟩
  | .local _ .vmem, ⟨6, _⟩ => ⟨S128x8192, .bf16⟩
  | .local _ .vmem, ⟨7, _⟩ => ⟨S128x8192, .bf16⟩
  | .local _ .vmem, ⟨8, _⟩ => ⟨S1x8192, .f32⟩
  | .local _ .vmem, ⟨9, _⟩ => ⟨S1x8192, .f32⟩
  | .local _ .vmem, ⟨10, _⟩ => ⟨S128x8192, .bf16⟩
  | .local _ .vmem, ⟨11, _⟩ => ⟨S128x8192, .bf16⟩
  | _, _ => ⟨S2x16640x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference12Ideal.lean ====
abbrev S2x16640x8192 : Shape := ⟨3, ![2, 16640, 8192]⟩
abbrev S16640x10240 : Shape := ⟨2, ![16640, 10240]⟩
abbrev S16640x8192 : Shape := ⟨2, ![16640, 8192]⟩
abbrev S128 : Shape := ⟨1, ![128]⟩
abbrev S8192 : Shape := ⟨1, ![8192]⟩
abbrev S2x16384x8192 : Shape := ⟨3, ![2, 16384, 8192]⟩
abbrev S2x16384x128x64 : Shape := ⟨4, ![2, 16384, 128, 64]⟩
abbrev S16384x8192 : Shape := ⟨2, ![16384, 8192]⟩
abbrev S16384x128x64 : Shape := ⟨3, ![16384, 128, 64]⟩
abbrev S1x16384x128x64 : Shape := ⟨4, ![1, 16384, 128, 64]⟩
abbrev S128x1 : Shape := ⟨2, ![128, 1]⟩
abbrev S1x128x1 : Shape := ⟨3, ![1, 128, 1]⟩
abbrev S_ : Shape := ⟨0, ![]⟩
abbrev S16384 : Shape := ⟨1, ![16384]⟩
abbrev S16384x1 : Shape := ⟨2, ![16384, 1]⟩
abbrev S1x8192 : Shape := ⟨2, ![1, 8192]⟩

abbrev nBuf : Space → Nat
  | .hbm => 51
  | .vmem => 0
  | .smem => 0
  | _ => 0

abbrev bufTy : (tb : Table) → Fin (tcTables nBuf tb) → BufTy
  | .hbm, ⟨0, _⟩ => ⟨S2x16640x8192, .bf16⟩
  | .hbm, ⟨1, _⟩ => ⟨S16640x10240, .bf16⟩
  | .hbm, ⟨2, _⟩ => ⟨S16640x8192, .bf16⟩
  | .hbm, ⟨3, _⟩ => ⟨S128, .f32⟩
  | .hbm, ⟨4, _⟩ => ⟨S8192, .f32⟩
  | .hbm, ⟨5, _⟩ => ⟨S2x16384x8192, .bf16⟩
  | .hbm, ⟨6, _⟩ => ⟨S2x16384x8192, .f32⟩
  | .hbm, ⟨7, _⟩ => ⟨S2x16384x128x64, .f32⟩
  | .hbm, ⟨8, _⟩ => ⟨S16384x8192, .bf16⟩
  | .hbm, ⟨9, _⟩ => ⟨S16384x8192, .f32⟩
  | .hbm, ⟨10, _⟩ => ⟨S16384x128x64, .f32⟩
  | .hbm, ⟨11, _⟩ => ⟨S1x16384x128x64, .f32⟩
  | .hbm, ⟨12, _⟩ => ⟨S16384x128x64, .f32⟩
  | .hbm, ⟨13, _⟩ => ⟨S1x16384x128x64, .f32⟩
  | .hbm, ⟨14, _⟩ => ⟨S16384x128x64, .f32⟩
  | .hbm, ⟨15, _⟩ => ⟨S16384x128x64, .f32⟩
  | .hbm, ⟨16, _⟩ => ⟨S128x1, .f32⟩
  | .hbm, ⟨17, _⟩ => ⟨S1x128x1, .f32⟩
  | .hbm, ⟨18, _⟩ => ⟨S16384x128x64, .f32⟩
  | .hbm, ⟨19, _⟩ => ⟨S16384x128x64, .f32⟩
  | .hbm, ⟨20, _⟩ => ⟨S16384x128x64, .f32⟩
  | .hbm, ⟨21, _⟩ => ⟨S16384x8192, .f32⟩
  | .hbm, ⟨22, _⟩ => ⟨S16384x8192, .bf16⟩
  | .hbm, ⟨23, _⟩ => ⟨S16384x8192, .f32⟩
  | .hbm, ⟨24, _⟩ => ⟨S16384x8192, .f32⟩
  | .hbm, ⟨25, _⟩ => ⟨S16384x8192, .f32⟩
  | .hbm, ⟨26, _⟩ => ⟨S_, .f32⟩
  | .hbm, ⟨27, _⟩ => ⟨S16384x8192, .f32⟩
  | .hbm, ⟨28, _⟩ => ⟨S16384x8192, .f32⟩
  | .hbm, ⟨29, _⟩ => ⟨S_, .f32⟩
  | .hbm, ⟨30, _⟩ => ⟨S16384x8192, .f32⟩
  | .hbm, ⟨31, _⟩ => ⟨S16384x8192, .f32⟩
  | .hbm, ⟨32, _⟩ => ⟨S16384x8192, .f32⟩
  | .hbm, ⟨33, _⟩ => ⟨S16384x8192, .f32⟩
  | .hbm, ⟨34, _⟩ => ⟨S16384x8192, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x8192, .f32⟩
  | .hbm, ⟨46, _⟩ => ⟨S16384x8192, .f32⟩
  | .hbm, ⟨47, _⟩ => ⟨S1x8192, .f32⟩
  | .hbm, ⟨48, _⟩ => ⟨S16384x8192, .f32⟩
  | .hbm, ⟨49, _⟩ => ⟨S16384x8192, .f32⟩
  | .hbm, ⟨50, _⟩ => ⟨S16384x8192, .bf16⟩
  | _, _ => ⟨S2x16640x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== Kernel13.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 40
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S_, .f32⟩
  | .hbm, ⟨26, _⟩ => ⟨S8x4096, .f32⟩
  | .hbm, ⟨27, _⟩ => ⟨S8x4096, .f32⟩
  | .hbm, ⟨28, _⟩ => ⟨S8x4096, .f32⟩
  | .hbm, ⟨29, _⟩ => ⟨S1x4096x24576, .f32⟩
  | .hbm, ⟨30, _⟩ => ⟨S4096x24576, .f32⟩
  | .hbm, ⟨31, _⟩ => ⟨S8x24576, .f32⟩
  | .hbm, ⟨32, _⟩ => ⟨S1x24576, .f32⟩
  | .hbm, ⟨33, _⟩ => ⟨S24576, .f32⟩
  | .hbm, ⟨34, _⟩ => ⟨S1x24576, .f32⟩
  | .hbm, ⟨35, _⟩ => ⟨S8x24576, .f32⟩
  | .hbm, ⟨36, _⟩ => ⟨S8x24576, .f32⟩
  | .hbm, ⟨37, _⟩ => ⟨S1x8x24576, .f32⟩
  | .hbm, ⟨38, _⟩ => ⟨S1x8x24576, .f32⟩
  | .hbm, ⟨39, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel16.lean ====
abbrev S16640x10240 : Shape := ⟨2, ![16640, 10240]⟩
abbrev S16640x256 : Shape := ⟨2, ![16640, 256]⟩
abbrev S16640x2x8x16 : Shape := ⟨4, ![16640, 2, 8, 16]⟩
abbrev S2x8x16640x16 : Shape := ⟨4, ![2, 8, 16640, 16]⟩
abbrev S130x128x2x8x16 : Shape := ⟨5, ![130, 128, 2, 8, 16]⟩
abbrev S2x8x130x16x128 : Shape := ⟨5, ![2, 8, 130, 16, 128]⟩
abbrev S2x16640x8192 : Shape := ⟨3, ![2, 16640, 8192]⟩
abbrev S128x1024 : Shape := ⟨2, ![128, 1024]⟩
abbrev S128x128 : Shape := ⟨2, ![128, 128]⟩
abbrev S1x1x1x16x128 : Shape := ⟨5, ![1, 1, 1, 16, 128]⟩
abbrev S1x1x128x16 : Shape := ⟨4, ![1, 1, 128, 16]⟩
abbrev S1x128x1024 : Shape := ⟨3, ![1, 128, 1024]⟩
abbrev S1x1024 : Shape := ⟨2, ![1, 1024]⟩
abbrev S16x128 : Shape := ⟨2, ![16, 128]⟩
abbrev S128x16 : Shape := ⟨2, ![128, 16]⟩
abbrev S16x1024 : Shape := ⟨2, ![16, 1024]⟩
abbrev S128x1 : Shape := ⟨2, ![128, 1]⟩
abbrev S1x128 : Shape := ⟨2, ![1, 128]⟩
abbrev S256x128 : Shape := ⟨2, ![256, 128]⟩
abbrev S128x256 : Shape := ⟨2, ![128, 256]⟩
abbrev S1x128x128 : Shape := ⟨3, ![1, 128, 128]⟩

abbrev nBuf : Space → Nat
  | .hbm => 10
  | .vmem => 17
  | .smem => 0
  | _ => 0

abbrev bufTy : (tb : Table) → Fin (tcTables nBuf tb) → BufTy
  | .hbm, ⟨0, _⟩ => ⟨S16640x10240, .bf16⟩
  | .hbm, ⟨1, _⟩ => ⟨S16640x256, .f32⟩
  | .hbm, ⟨2, _⟩ => ⟨S16640x256, .f32⟩
  | .hbm, ⟨3, _⟩ => ⟨S16640x2x8x16, .f32⟩
  | .hbm, ⟨4, _⟩ => ⟨S2x8x16640x16, .f32⟩
  | .hbm, ⟨5, _⟩ => ⟨S130x128x2x8x16, .f32⟩
  | .hbm, ⟨6, _⟩ => ⟨S2x8x130x16x128, .f32⟩
  | .hbm, ⟨7, _⟩ => ⟨S130x128x2x8x16, .f32⟩
  | .hbm, ⟨8, _⟩ => ⟨S2x8x130x16x128, .f32⟩
  | .hbm, ⟨9, _⟩ => ⟨S2x16640x8192, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S1x1x1x16x128, .f32⟩
  | .local _ .vmem, ⟨7, _⟩ => ⟨S1x1x1x16x128, .f32⟩
  | .local _ .vmem, ⟨8, _⟩ => ⟨S1x1x1x16x128, .f32⟩
  | .local _ .vmem, ⟨9, _⟩ => ⟨S1x1x1x16x128, .f32⟩
  | .local _ .vmem, ⟨10, _⟩ => ⟨S1x1x128x16, .f32⟩
  | .local _ .vmem, ⟨11, _⟩ => ⟨S1x1x128x16, .f32⟩
  | .local _ .vmem, ⟨12, _⟩ => ⟨S1x128x1024, .bf16⟩
  | .local _ .vmem, ⟨13, _⟩ => ⟨S1x128x1024, .bf16⟩
  | .local _ .vmem, ⟨14, _⟩ => ⟨S128x1024, .f32⟩
  | .local _ .vmem, ⟨15, _⟩ => ⟨S128x1024, .bf16⟩
  | .local _ .vmem, ⟨16, _⟩ => ⟨S1x1024, .f32⟩
  | _, _ => ⟨S16640x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 8, 130], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c0_i32_1 : BitVec 32 := 0#32
  ![v6.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c64_i32 : BitVec 32 := 64#32
  let v7 : BitVec 32 := Scalar.addi c64_i32 arg1
  let c0_i32_1 : BitVec 32 := 0#32
  ![v6.toNat, v7.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c72_i32 : BitVec 32 := 72#32
  let v7 : BitVec 32 := Scalar.addi c72_i32 arg1
  let c0_i32_1 : BitVec 32 := 0#32
  ![v6.toNat, v7.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c0_i32_1 : BitVec 32 := 0#32
  let c0_i32_2 : BitVec 32 := 0#32
  let c0_i32_3 : BitVec 32 := 0#32
  ![arg0.toNat, arg1.toNat, v6.toNat, c0_i32_1.toNat, c0_i32_2.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c0_i32_1 : BitVec 32 := 0#32
  let c0_i32_2 : BitVec 32 := 0#32
  let c0_i32_3 : BitVec 32 := 0#32
  ![arg0.toNat, arg1.toNat, v6.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c0_i32_1 : BitVec 32 := 0#32
  let c0_i32_2 : BitVec 32 := 0#32
  ![arg0.toNat, arg1.toNat, v6.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c128_i32 : BitVec 32 := 128#32
  let v1 : BitVec 32 := Scalar.addi c128_i32 arg2
  let c2_i32_0 : BitVec 32 := 2#32
  let v2 : BitVec 32 := Scalar.subi arg2 c2_i32_0
  let v3 : BitVec 32 := Scalar.select v0 v1 v2
  let c0_i32 : BitVec 32 := 0#32
  let v4 : BitVec 1 := Scalar.cmpi .eq arg0 c0_i32
  let c129_i32 : BitVec 32 := 129#32
  let v5 : BitVec 32 := Scalar.subi c129_i32 arg2
  let v6 : BitVec 32 := Scalar.select v4 v3 v5
  let c0_i32_1 : BitVec 32 := 0#32
  ![arg0.toNat, v6.toNat, arg1.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x128x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference16Ideal.lean ====
abbrev S16640x10240 : Shape := ⟨2, ![16640, 10240]⟩
abbrev S16640x256 : Shape := ⟨2, ![16640, 256]⟩
abbrev S_ : Shape := ⟨0, ![]⟩
abbrev S2x8x16x64x128 : Shape := ⟨5, ![2, 8, 16, 64, 128]⟩
abbrev S130x128x10240 : Shape := ⟨3, ![130, 128, 10240]⟩
abbrev S2x128x10240 : Shape := ⟨3, ![2, 128, 10240]⟩
abbrev S128x128x10240 : Shape := ⟨3, ![128, 128, 10240]⟩
abbrev S130x1x128x10240 : Shape := ⟨4, ![130, 1, 128, 10240]⟩
abbrev S130x2x128x10240 : Shape := ⟨4, ![130, 2, 128, 10240]⟩
abbrev S130x128x256 : Shape := ⟨3, ![130, 128, 256]⟩
abbrev S2x128x256 : Shape := ⟨3, ![2, 128, 256]⟩
abbrev S128x128x256 : Shape := ⟨3, ![128, 128, 256]⟩
abbrev S130x1x128x256 : Shape := ⟨4, ![130, 1, 128, 256]⟩
abbrev S130x2x128x256 : Shape := ⟨4, ![130, 2, 128, 256]⟩
abbrev S130x2x128x8x16x64 : Shape := ⟨6, ![130, 2, 128, 8, 16, 64]⟩
abbrev S1x2x128x10240 : Shape := ⟨4, ![1, 2, 128, 10240]⟩
abbrev S1x2x128x256 : Shape := ⟨4, ![1, 2, 128, 256]⟩
abbrev S2x128x8192 : Shape := ⟨3, ![2, 128, 8192]⟩
abbrev S2x128x1024 : Shape := ⟨3, ![2, 128, 1024]⟩
abbrev S2x128x8x16x64 : Shape := ⟨5, ![2, 128, 8, 16, 64]⟩
abbrev S2x128x8x128 : Shape := ⟨4, ![2, 128, 8, 128]⟩
abbrev S1x128x128 : Shape := ⟨3, ![1, 128, 128]⟩
abbrev S128x128 : Shape := ⟨2, ![128, 128]⟩
abbrev S2x128x128 : Shape := ⟨3, ![2, 128, 128]⟩
abbrev S2x128x8x16 : Shape := ⟨4, ![2, 128, 8, 16]⟩
abbrev S128 : Shape := ⟨1, ![128]⟩
abbrev S128x1 : Shape := ⟨2, ![128, 1]⟩
abbrev S1x128 : Shape := ⟨2, ![1, 128]⟩
abbrev S2x128x128x1x1 : Shape := ⟨5, ![2, 128, 128, 1, 1]⟩
abbrev S2x128x1x8x16 : Shape := ⟨5, ![2, 128, 1, 8, 16]⟩
abbrev S2x1x128x8x16 : Shape := ⟨5, ![2, 1, 128, 8, 16]⟩
abbrev S2x128x128x8x16 : Shape := ⟨5, ![2, 128, 128, 8, 16]⟩
abbrev S2x8x128x128 : Shape := ⟨4, ![2, 8, 128, 128]⟩
abbrev S2x128x128x8 : Shape := ⟨4, ![2, 128, 128, 8]⟩
abbrev S2x128x128x8x1 : Shape := ⟨5, ![2, 128, 128, 8, 1]⟩
abbrev S2x128x8x16x1 : Shape := ⟨5, ![2, 128, 8, 16, 1]⟩
abbrev S1x1x8x16 : Shape := ⟨4, ![1, 1, 8, 16]⟩
abbrev S8x16 : Shape := ⟨2, ![8, 16]⟩
abbrev S1x8x16 : Shape := ⟨3, ![1, 8, 16]⟩
abbrev S2x8x16 : Shape := ⟨3, ![2, 8, 16]⟩
abbrev S2x1x8x16 : Shape := ⟨4, ![2, 1, 8, 16]⟩
abbrev S2x8x16x1x1 : Shape := ⟨5, ![2, 8, 16, 1, 1]⟩
abbrev S1x2x128x8x16x64 : Shape := ⟨6, ![1, 2, 128, 8, 16, 64]⟩
abbrev S130x2x128x8192 : Shape := ⟨4, ![130, 2, 128, 8192]⟩
abbrev S128x1x128x8192 : Shape := ⟨4, ![128, 1, 128, 8192]⟩
abbrev S128x128x8192 : Shape := ⟨3, ![128, 128, 8192]⟩
abbrev S2x1x128x8192 : Shape := ⟨4, ![2, 1, 128, 8192]⟩
abbrev S130x128x8192 : Shape := ⟨3, ![130, 128, 8192]⟩
abbrev S130x1x128x8192 : Shape := ⟨4, ![130, 1, 128, 8192]⟩
abbrev S1x130x128x8192 : Shape := ⟨4, ![1, 130, 128, 8192]⟩
abbrev S2x130x128x8192 : Shape := ⟨4, ![2, 130, 128, 8192]⟩
abbrev S2x16640x8192 : Shape := ⟨3, ![2, 16640, 8192]⟩

abbrev nBuf : Space → Nat
  | .hbm => 165
  | .vmem => 0
  | .smem => 0
  | _ => 0

abbrev hbmTy0_0 (i : Nat) : BufTy := match i % 128 with
  | 0 => ⟨S16640x10240, .bf16⟩
  | 1 => ⟨S16640x256, .f32⟩
  | 2 => ⟨S16640x256, .f32⟩
  | 3 => ⟨S_, .f32⟩
  | 4 => ⟨S2x8x16x64x128, .f32⟩
  | 5 => ⟨S130x128x10240, .bf16⟩
  | 6 => ⟨S2x128x10240, .bf16⟩
  | 7 => ⟨S128x128x10240, .bf16⟩
  | 8 => ⟨S130x128x10240, .bf16⟩
  | 9 => ⟨S130x128x10240, .bf16⟩
  | 10 => ⟨S130x1x128x10240, .bf16⟩
  | 11 => ⟨S130x1x128x10240, .bf16⟩
  | 12 => ⟨S130x2x128x10240, .bf16⟩
  | 13 => ⟨S130x128x256, .f32⟩
  | 14 => ⟨S2x128x256, .f32⟩
  | 15 => ⟨S128x128x256, .f32⟩
  | 16 => ⟨S130x128x256, .f32⟩
  | 17 => ⟨S130x128x256, .f32⟩
  | 18 => ⟨S130x1x128x256, .f32⟩
  | 19 => ⟨S130x1x128x256, .f32⟩
  | 20 => ⟨S130x2x128x256, .f32⟩
  | 21 => ⟨S130x128x256, .f32⟩
  | 22 => ⟨S2x128x256, .f32⟩
  | 23 => ⟨S128x128x256, .f32⟩
  | 24 => ⟨S130x128x256, .f32⟩
  | 25 => ⟨S130x128x256, .f32⟩
  | 26 => ⟨S130x1x128x256, .f32⟩
  | 27 => ⟨S130x1x128x256, .f32⟩
  | 28 => ⟨S130x2x128x256, .f32⟩
  | 29 => ⟨S_, .f32⟩
  | 30 => ⟨S130x2x128x8x16x64, .f32⟩
  | 31 => ⟨S_, .i32⟩
  | 32 => ⟨S130x2x128x10240, .bf16⟩
  | 33 => ⟨S130x2x128x256, .f32⟩
  | 34 => ⟨S130x2x128x256, .f32⟩
  | 35 => ⟨S_, .i32⟩
  | 36 => ⟨S2x8x16x64x128, .f32⟩
  | 37 => ⟨S130x2x128x8x16x64, .f32⟩
  | 38 => ⟨S_, .i32⟩
  | 39 => ⟨S_, .i1⟩
  | 40 => ⟨S_, .i32⟩
  | 41 => ⟨S_, .i32⟩
  | 42 => ⟨S_, .i32⟩
  | 43 => ⟨S1x2x128x10240, .bf16⟩
  | 44 => ⟨S2x128x10240, .bf16⟩
  | 45 => ⟨S_, .i32⟩
  | 46 => ⟨S_, .i32⟩
  | 47 => ⟨S_, .i32⟩
  | 48 => ⟨S1x2x128x256, .f32⟩
  | 49 => ⟨S2x128x256, .f32⟩
  | 50 => ⟨S_, .i32⟩
  | 51 => ⟨S_, .i32⟩
  | 52 => ⟨S_, .i32⟩
  | 53 => ⟨S1x2x128x256, .f32⟩
  | 54 => ⟨S2x128x256, .f32⟩
  | 55 => ⟨S2x128x10240, .f32⟩
  | 56 => ⟨S2x128x8192, .f32⟩
  | 57 => ⟨S2x128x1024, .f32⟩
  | 58 => ⟨S2x128x1024, .f32⟩
  | 59 => ⟨S2x128x8x16x64, .f32⟩
  | 60 => ⟨S2x128x8x128, .f32⟩
  | 61 => ⟨S2x128x8x128, .f32⟩
  | 62 => ⟨S1x128x128, .f32⟩
  | 63 => ⟨S128x128, .f32⟩
  | 64 => ⟨S1x128x128, .f32⟩
  | 65 => ⟨S128x128, .f32⟩
  | 66 => ⟨S1x128x128, .f32⟩
  | 67 => ⟨S1x128x128, .f32⟩
  | 68 => ⟨S2x128x128, .f32⟩
  | 69 => ⟨S2x128x8x16, .f32⟩
  | 70 => ⟨S1x128x128, .f32⟩
  | 71 => ⟨S128x128, .f32⟩
  | 72 => ⟨S1x128x128, .f32⟩
  | 73 => ⟨S128x128, .f32⟩
  | 74 => ⟨S1x128x128, .f32⟩
  | 75 => ⟨S1x128x128, .f32⟩
  | 76 => ⟨S2x128x128, .f32⟩
  | 77 => ⟨S2x128x8x16, .f32⟩
  | 78 => ⟨S128, .i32⟩
  | 79 => ⟨S128x1, .i32⟩
  | 80 => ⟨S128, .i32⟩
  | 81 => ⟨S1x128, .i32⟩
  | 82 => ⟨S128x128, .i32⟩
  | 83 => ⟨S128x128, .i32⟩
  | 84 => ⟨S128x128, .i1⟩
  | 85 => ⟨S1x128, .i32⟩
  | 86 => ⟨S128x128, .i32⟩
  | 87 => ⟨S128x128, .i32⟩
  | 88 => ⟨S128x128, .i1⟩
  | 89 => ⟨S1x128x128, .i1⟩
  | 90 => ⟨S1x128x128, .i1⟩
  | 91 => ⟨S2x128x128, .i1⟩
  | 92 => ⟨S2x128x128x1x1, .i1⟩
  | 93 => ⟨S2x128x1x8x16, .f32⟩
  | 94 => ⟨S2x1x128x8x16, .f32⟩
  | 95 => ⟨S2x128x128x8x16, .f32⟩
  | 96 => ⟨S2x128x128x8x16, .f32⟩
  | 97 => ⟨S2x128x128x8x16, .f32⟩
  | 98 => ⟨S_, .f32⟩
  | 99 => ⟨S_, .f32⟩
  | 100 => ⟨S2x128x128x8x16, .i1⟩
  | 101 => ⟨S2x128x128x8x16, .f32⟩
  | 102 => ⟨S2x128x128x8x16, .f32⟩
  | 103 => ⟨S2x128x128x8x16, .f32⟩
  | 104 => ⟨S2x8x128x128, .f32⟩
  | 105 => ⟨S2x128x128x8, .f32⟩
  | 106 => ⟨S2x128x128x8x1, .f32⟩
  | 107 => ⟨S2x128x128x8x16, .f32⟩
  | 108 => ⟨S2x128x128x8x16, .f32⟩
  | 109 => ⟨S2x1x128x8x16, .f32⟩
  | 110 => ⟨S2x128x128x8x16, .f32⟩
  | 111 => ⟨S2x128x128x8x16, .f32⟩
  | 112 => ⟨S2x8x16x64x128, .f32⟩
  | 113 => ⟨S2x128x8x16x64, .f32⟩
  | 114 => ⟨S2x8x16x64x128, .f32⟩
  | 115 => ⟨S2x128x8x16x64, .f32⟩
  | 116 => ⟨S2x128x8x16, .f32⟩
  | 117 => ⟨S2x128x8x16x1, .f32⟩
  | 118 => ⟨S2x128x8x16x64, .f32⟩
  | 119 => ⟨S2x128x8x16x64, .f32⟩
  | 120 => ⟨S2x128x8x16x64, .f32⟩
  | 121 => ⟨S1x1x8x16, .f32⟩
  | 122 => ⟨S8x16, .f32⟩
  | 123 => ⟨S1x1x8x16, .f32⟩
  | 124 => ⟨S8x16, .f32⟩
  | 125 => ⟨S1x8x16, .f32⟩
  | 126 => ⟨S1x8x16, .f32⟩
  | 127 => ⟨S2x8x16, .f32⟩
  | _ => ⟨S16640x10240, .bf16⟩

abbrev hbmTy0_1 (i : Nat) : BufTy := match i % 128 with
  | 0 => ⟨S2x1x8x16, .f32⟩
  | 1 => ⟨S2x128x8x16, .f32⟩
  | 2 => ⟨S2x128x8x16, .f32⟩
  | 3 => ⟨S2x128x8x16, .f32⟩
  | 4 => ⟨S2x128x8x16, .f32⟩
  | 5 => ⟨S2x8x16, .f32⟩
  | 6 => ⟨S2x8x16x1x1, .f32⟩
  | 7 => ⟨S2x8x16x64x128, .f32⟩
  | 8 => ⟨S2x8x16x64x128, .f32⟩
  | 9 => ⟨S2x128x8x16x1, .f32⟩
  | 10 => ⟨S2x128x8x16x64, .f32⟩
  | 11 => ⟨S2x128x8x16x64, .f32⟩
  | 12 => ⟨S2x8x16x64x128, .f32⟩
  | 13 => ⟨S2x8x16x64x128, .f32⟩
  | 14 => ⟨S1x2x128x8x16x64, .f32⟩
  | 15 => ⟨S_, .i32⟩
  | 16 => ⟨S_, .i32⟩
  | 17 => ⟨S_, .i32⟩
  | 18 => ⟨S_, .i32⟩
  | 19 => ⟨S_, .i32⟩
  | 20 => ⟨S130x2x128x8x16x64, .f32⟩
  | 21 => ⟨S_, .i32⟩
  | 22 => ⟨S_, .i32⟩
  | 23 => ⟨S130x2x128x8192, .f32⟩
  | 24 => ⟨S128x1x128x8192, .f32⟩
  | 25 => ⟨S128x128x8192, .f32⟩
  | 26 => ⟨S2x1x128x8192, .f32⟩
  | 27 => ⟨S2x128x8192, .f32⟩
  | 28 => ⟨S130x128x8192, .f32⟩
  | 29 => ⟨S130x1x128x8192, .f32⟩
  | 30 => ⟨S130x1x128x8192, .f32⟩
  | 31 => ⟨S130x128x8192, .f32⟩
  | 32 => ⟨S1x130x128x8192, .f32⟩
  | 33 => ⟨S1x130x128x8192, .f32⟩
  | 34 => ⟨S2x130x128x8192, .f32⟩
  | 35 => ⟨S2x16640x8192, .f32⟩
  | 36 => ⟨S2x16640x8192, .bf16⟩
  | _ => ⟨S16640x10240, .bf16⟩

abbrev hbmTy (i : Nat) : BufTy := match i / 128 with
  | 0 => hbmTy0_0 i
  | 1 => hbmTy0_1 i
  | _ => ⟨S16640x10240, .bf16⟩

abbrev bufTy : (tb : Table) → Fin (tcTables nBuf tb) → BufTy
  | .hbm, ⟨i, _⟩ => hbmTy i
  | _, _ => ⟨S16640x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_c : Ref sig .tc := ⟨.hbm, 31, rfl⟩
abbrev main_v26_0 : Ref sig .tc := ⟨.hbm, 32, rfl⟩
abbrev main_v26_1 : Ref sig .tc := ⟨.hbm, 33, rfl⟩
abbrev main_v26_2 : Ref sig .tc := ⟨.hbm, 34, rfl⟩
abbrev main_v26_3 : Ref sig .tc := ⟨.hbm, 35, rfl⟩
abbrev main_v26_4 : Ref sig .tc := ⟨.hbm, 36, rfl⟩
abbrev main_v26_5 : Ref sig .tc := ⟨.hbm, 37, rfl⟩
abbrev main_while0c_c_6 : Ref sig .tc := ⟨.hbm, 38, rfl⟩
abbrev main_while0c_v41 : Ref sig .tc := ⟨.hbm, 39, rfl⟩
abbrev main_while0b_call0_c : Ref sig .tc := ⟨.hbm, 40, rfl⟩
abbrev main_while0b_call0_c_0 : Ref sig .tc := ⟨.hbm, 41, rfl⟩
abbrev main_while0b_call0_c_1 : Ref sig .tc := ⟨.hbm, 42, rfl⟩
abbrev main_while0b_call0_v0 : Ref sig .tc := ⟨.hbm, 43, rfl⟩
abbrev main_while0b_v41 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_v0 : Ref sig .tc := ⟨.hbm, 48, rfl⟩
abbrev main_while0b_v42 : Ref sig .tc := ⟨.hbm, 49, rfl⟩
abbrev main_while0b_call2_c : Ref sig .tc := ⟨.hbm, 50, rfl⟩
abbrev main_while0b_call2_c_0 : Ref sig .tc := ⟨.hbm, 51, rfl⟩
abbrev main_while0b_call2_c_1 : Ref sig .tc := ⟨.hbm, 52, rfl⟩
abbrev main_while0b_call2_v0 : Ref sig .tc := ⟨.hbm, 53, rfl⟩
abbrev main_while0b_v43 : Ref sig .tc := ⟨.hbm, 54, rfl⟩
abbrev main_while0b_v44 : Ref sig .tc := ⟨.hbm, 55, rfl⟩
abbrev main_while0b_v45 : Ref sig .tc := ⟨.hbm, 56, rfl⟩
abbrev main_while0b_v46 : Ref sig .tc := ⟨.hbm, 57, rfl⟩
abbrev main_while0b_v47 : Ref sig .tc := ⟨.hbm, 58, rfl⟩
abbrev main_while0b_v48 : Ref sig .tc := ⟨.hbm, 59, rfl⟩
abbrev main_while0b_v49 : Ref sig .tc := ⟨.hbm, 60, rfl⟩
abbrev main_while0b_v50 : Ref sig .tc := ⟨.hbm, 61, rfl⟩
abbrev main_while0b_v51 : Ref sig .tc := ⟨.hbm, 62, rfl⟩
abbrev main_while0b_v52 : Ref sig .tc := ⟨.hbm, 63, rfl⟩
abbrev main_while0b_v53 : Ref sig .tc := ⟨.hbm, 64, rfl⟩
abbrev main_while0b_v54 : Ref sig .tc := ⟨.hbm, 65, rfl⟩
abbrev main_while0b_v55 : Ref sig .tc := ⟨.hbm, 66, rfl⟩
abbrev main_while0b_v56 : Ref sig .tc := ⟨.hbm, 67, rfl⟩
abbrev main_while0b_v57 : Ref sig .tc := ⟨.hbm, 68, rfl⟩
abbrev main_while0b_v58 : Ref sig .tc := ⟨.hbm, 69, rfl⟩
abbrev main_while0b_v59 : Ref sig .tc := ⟨.hbm, 70, rfl⟩
abbrev main_while0b_v60 : Ref sig .tc := ⟨.hbm, 71, rfl⟩
abbrev main_while0b_v61 : Ref sig .tc := ⟨.hbm, 72, rfl⟩
abbrev main_while0b_v62 : Ref sig .tc := ⟨.hbm, 73, rfl⟩
abbrev main_while0b_v63 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_v72 : Ref sig .tc := ⟨.hbm, 83, rfl⟩
abbrev main_while0b_v73 : Ref sig .tc := ⟨.hbm, 84, rfl⟩
abbrev main_while0b_v74 : Ref sig .tc := ⟨.hbm, 85, rfl⟩
abbrev main_while0b_v75 : Ref sig .tc := ⟨.hbm, 86, rfl⟩
abbrev main_while0b_v76 : Ref sig .tc := ⟨.hbm, 87, rfl⟩
abbrev main_while0b_v77 : Ref sig .tc := ⟨.hbm, 88, rfl⟩
abbrev main_while0b_v78 : Ref sig .tc := ⟨.hbm, 89, rfl⟩
abbrev main_while0b_v79 : Ref sig .tc := ⟨.hbm, 90, rfl⟩
abbrev main_while0b_v80 : Ref sig .tc := ⟨.hbm, 91, rfl⟩
abbrev main_while0b_v81 : Ref sig .tc := ⟨.hbm, 92, rfl⟩
abbrev main_while0b_v82 : Ref sig .tc := ⟨.hbm, 93, rfl⟩
abbrev main_while0b_v83 : Ref sig .tc := ⟨.hbm, 94, rfl⟩
abbrev main_while0b_v84 : Ref sig .tc := ⟨.hbm, 95, rfl⟩
abbrev main_while0b_v85 : Ref sig .tc := ⟨.hbm, 96, rfl⟩
abbrev main_while0b_v86 : Ref sig .tc := ⟨.hbm, 97, rfl⟩
abbrev main_while0b_cst_6 : Ref sig .tc := ⟨.hbm, 98, rfl⟩
abbrev main_while0b_call3_v0 : Ref sig .tc := ⟨.hbm, 99, rfl⟩
abbrev main_while0b_call3_v1 : Ref sig .tc := ⟨.hbm, 100, rfl⟩
abbrev main_while0b_call3_v2 : Ref sig .tc := ⟨.hbm, 101, rfl⟩
abbrev main_while0b_v87 : Ref sig .tc := ⟨.hbm, 102, rfl⟩
abbrev main_while0b_v88 : Ref sig .tc := ⟨.hbm, 103, rfl⟩
abbrev main_while0b_v89 : Ref sig .tc := ⟨.hbm, 104, rfl⟩
abbrev main_while0b_v90 : Ref sig .tc := ⟨.hbm, 105, rfl⟩
abbrev main_while0b_v91 : Ref sig .tc := ⟨.hbm, 106, rfl⟩
abbrev main_while0b_v92 : Ref sig .tc := ⟨.hbm, 107, rfl⟩
abbrev main_while0b_v93 : Ref sig .tc := ⟨.hbm, 108, rfl⟩
abbrev main_while0b_v94 : Ref sig .tc := ⟨.hbm, 109, rfl⟩
abbrev main_while0b_v95 : Ref sig .tc := ⟨.hbm, 110, rfl⟩
abbrev main_while0b_v96 : Ref sig .tc := ⟨.hbm, 111, rfl⟩
abbrev main_while0b_v97 : Ref sig .tc := ⟨.hbm, 112, rfl⟩
abbrev main_while0b_v98 : Ref sig .tc := ⟨.hbm, 113, rfl⟩
abbrev main_while0b_v99 : Ref sig .tc := ⟨.hbm, 114, rfl⟩
abbrev main_while0b_v100 : Ref sig .tc := ⟨.hbm, 115, rfl⟩
abbrev main_while0b_v101 : Ref sig .tc := ⟨.hbm, 116, rfl⟩
abbrev main_while0b_v102 : Ref sig .tc := ⟨.hbm, 117, rfl⟩
abbrev main_while0b_v103 : Ref sig .tc := ⟨.hbm, 118, rfl⟩
abbrev main_while0b_v104 : Ref sig .tc := ⟨.hbm, 119, rfl⟩
abbrev main_while0b_v105 : Ref sig .tc := ⟨.hbm, 120, rfl⟩
abbrev main_while0b_v106 : Ref sig .tc := ⟨.hbm, 121, rfl⟩
abbrev main_while0b_v107 : Ref sig .tc := ⟨.hbm, 122, rfl⟩
abbrev main_while0b_v108 : Ref sig .tc := ⟨.hbm, 123, rfl⟩
abbrev main_while0b_v109 : Ref sig .tc := ⟨.hbm, 124, rfl⟩
abbrev main_while0b_v110 : Ref sig .tc := ⟨.hbm, 125, rfl⟩
abbrev main_while0b_v111 : Ref sig .tc := ⟨.hbm, 126, rfl⟩
abbrev main_while0b_v112 : Ref sig .tc := ⟨.hbm, 127, rfl⟩
abbrev main_while0b_v113 : Ref sig .tc := ⟨.hbm, 128, rfl⟩
abbrev main_while0b_v114 : Ref sig .tc := ⟨.hbm, 129, rfl⟩
abbrev main_while0b_v115 : Ref sig .tc := ⟨.hbm, 130, rfl⟩
abbrev main_while0b_v116 : Ref sig .tc := ⟨.hbm, 131, rfl⟩
abbrev main_while0b_v117 : Ref sig .tc := ⟨.hbm, 132, rfl⟩
abbrev main_while0b_v118 : Ref sig .tc := ⟨.hbm, 133, rfl⟩
abbrev main_while0b_v119 : Ref sig .tc := ⟨.hbm, 134, rfl⟩
abbrev main_while0b_v120 : Ref sig .tc := ⟨.hbm, 135, rfl⟩
abbrev main_while0b_v121 : Ref sig .tc := ⟨.hbm, 136, rfl⟩
abbrev main_while0b_v122 : Ref sig .tc := ⟨.hbm, 137, rfl⟩
abbrev main_while0b_v123 : Ref sig .tc := ⟨.hbm, 138, rfl⟩
abbrev main_while0b_v124 : Ref sig .tc := ⟨.hbm, 139, rfl⟩
abbrev main_while0b_v125 : Ref sig .tc := ⟨.hbm, 140, rfl⟩
abbrev main_while0b_v126 : Ref sig .tc := ⟨.hbm, 141, rfl⟩
abbrev main_while0b_call4_v0 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_call4_c_1 : Ref sig .tc := ⟨.hbm, 145, rfl⟩
abbrev main_while0b_call4_c_2 : Ref sig .tc := ⟨.hbm, 146, rfl⟩
abbrev main_while0b_call4_c_3 : Ref sig .tc := ⟨.hbm, 147, rfl⟩
abbrev main_while0b_v127 : Ref sig .tc := ⟨.hbm, 148, rfl⟩
abbrev main_while0b_c_7 : Ref sig .tc := ⟨.hbm, 149, rfl⟩
abbrev main_while0b_v128 : Ref sig .tc := ⟨.hbm, 150, rfl⟩
abbrev main_v27 : Ref sig .tc := ⟨.hbm, 151, rfl⟩
abbrev main_v28 : Ref sig .tc := ⟨.hbm, 152, rfl⟩
abbrev main_v29 : Ref sig .tc := ⟨.hbm, 153, rfl⟩
abbrev main_v30 : Ref sig .tc := ⟨.hbm, 154, rfl⟩
abbrev main_v31 : Ref sig .tc := ⟨.hbm, 155, rfl⟩
abbrev main_v32 : Ref sig .tc := ⟨.hbm, 156, rfl⟩
abbrev main_v33 : Ref sig .tc := ⟨.hbm, 157, rfl⟩
abbrev main_v34 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩

abbrev nD : Nat := 1
abbrev τ : Topo := Topo.v7x

variable {F : FTy → Type} [FloatOps F]

abbrev main_while0_count : Scf.Loop 32 := ⟨0#32, 130#32, 1#32⟩
-- ==== Proof.KernelIdeal.Body.lean ====
/-
  One grid point of the attention call: what the kernel body leaves in its buffers. The running maximum and
  the running sums are a recursion over the blocks of keys (`mAt`, `accAt`), stated over the payloads of the
  program's own stores, so the same text serves the program at its words and its idealization.
-/
module

public import proofs.«01_k».proof.Proof.Gen.KernelIdeal.Skeleton
public import proofs.«01_k».proof.Proof.Gen.KernelIdeal.Loops
public import Idealize.ShloMosaic.Lib.Tactic
public import Idealize.ShloMosaic.Lib.VecWindow

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The blocks of keys and values, and the running state -/

theorem kOff_inb (b : ℕ) : ∀ a, (![b % 10 * 1664, 0] : Fin 2 → ℕ) a + S1664x256.size a ≤ S16640x256.size a := by
  have h : b % 10 < 10 := Nat.mod_lt _ (by decide)
  intro a; fin_cases a
  · show b % 10 * 1664 + 1664 ≤ 16640; omega
  · show 0 + 256 ≤ 256; omega

theorem vOff_inb (b : ℕ) : ∀ a, (![0, b % 10, 0, 0] : Fin 4 → ℕ) a + S1x1x128x1664.size a ≤ S1x10x128x1664.size a := by
  have h : b % 10 < 10 := Nat.mod_lt _ (by decide)
  intro a; fin_cases a
  · show 0 + 1 ≤ 1; omega
  · show b % 10 + 1 ≤ 10; omega
  · show 0 + 128 ≤ 128; omega
  · show 0 + 1664 ≤ 1664; omega

/-- Block `b` of the keys, of the ten (the block number taken modulo ten, so that it is total), -/
def kBlk (x1 : Vec F S16640x256 .bf16) (b : ℕ) : Vec F S1664x256 .bf16 :=
  VecWindow.window x1 ![b % 10 * 1664, 0] S1664x256.size (kOff_inb b)

/-- and block `b` of the values. -/
def vBlk (x2 : Vec F S1x10x128x1664 .bf16) (b : ℕ) : Vec F S1x1x128x1664 .bf16 :=
  VecWindow.window x2 ![0, b % 10, 0, 0] S1x1x128x1664.size (vOff_inb b)

variable (x0 : Vec F S2048x256 .bf16) (x1 : Vec F S16640x256 .bf16) (x2 : Vec F S1x10x128x1664 .bf16)

/-- The scores of block `b`'s keys against the queries, -/
def scAt (b : ℕ) : FVec F S1664x2048 .f32 := k0_pay18 x0 (kBlk x1 b)
/-- and their maximum over the block, for each query. -/
def mbAt (b : ℕ) : FVec F S1x2048 .f32 := k0_pay19 x0 (kBlk x1 b)

/-- The running maximum after `n` blocks, -/
def mAt : ℕ → FVec F S1x2048 .f32
  | 0 => k0_pay15
  | n + 1 => k0_pay7 (mAt n) (mbAt x0 x1 n)

/-- and the running sums: rows below 128 of the weighted values, rows from 128 on of the weights. -/
def accAt : ℕ → FVec F S256x2048 .f32
  | 0 => k0_pay16
  | n + 1 => k0_pay6 k0_pay14 (mAt x0 x1 n) (mbAt x0 x1 n) (scAt x0 x1 n) (vBlk x2 n) (accAt n)

/-- What the body stores into the output's block. -/
def outAt : FVec F S2048x128 .bf16 := k0_pay4 (accAt x0 x1 x2 10)

/-! ### One trip of the loop -/

theorem trips_eq : k0_t1_loop.trips = 4 := by decide

theorem off1_eq : ∀ k : Fin k0_t1_loop.trips, k0_off1 k = ![0, (2 * k.val) % 10, 0, 0] := by decide +kernel
theorem off3_eq : ∀ k : Fin k0_t1_loop.trips, k0_off3 k = ![0, (2 * k.val + 1) % 10, 0, 0] := by decide +kernel
theorem off2_eq1 : ∀ k : Fin k0_t1_loop.trips, k0_off2 k 1#32 = ![(2 * k.val + 1) % 10 * 1664, 0] := by decide +kernel
theorem off2_eq2 : ∀ k : Fin k0_t1_loop.trips, k0_off2 k 2#32 = ![(2 * k.val + 2) % 10 * 1664, 0] := by decide +kernel

variable (c : Dev nD) (i : grid0.Coords)
  (arg2 : Memref sig .tc .vmem S2048x256 .bf16) (harg2 : arg2.IsWhole) (arg3 : Memref sig .tc .vmem S16640x256 .bf16) (harg3 : arg3.IsWhole)
  (arg4 : Memref sig .tc .vmem S1x10x128x1664 .bf16) (harg4 : arg4.IsWhole) (arg5 : Memref sig .tc .vmem S2048x128 .bf16) (harg5 : arg5.IsWhole)
  (arg6 : Memref sig .tc .vmem S1664x2048 .f32) (harg6 : arg6.IsWhole) (arg7 : Memref sig .tc .vmem S1664x2048 .f32) (harg7 : arg7.IsWhole)
  (arg8 : Memref sig .tc .vmem S1x2048 .f32) (harg8 : arg8.IsWhole) (arg9 : Memref sig .tc .vmem S1x2048 .f32) (harg9 : arg9.IsWhole)
  (arg10 : Memref sig .tc .vmem S256x2048 .f32) (harg10 : arg10.IsWhole) (arg11 : Memref sig .tc .vmem S1x2048 .f32) (harg11 : arg11.IsWhole)

/-- Before trip `k`: the keys and values as given, the even scores' buffers at block `2 k`'s, the odd ones at anything,
    the running state after `2 k` blocks. -/
def inv (k : ℕ) (_ : Unit) : sProp 𝕄 :=
  iprop(owns (c : Thread nD τ) arg3 fullShare x1 ∗ owns (c : Thread nD τ) arg4 fullShare x2
    ∗ owns (c : Thread nD τ) arg6 fullShare (scAt x0 x1 (2 * k)) ∗ (∃ d, owns (c : Thread nD τ) arg7 fullShare d)
    ∗ owns (c : Thread nD τ) arg8 fullShare (mbAt x0 x1 (2 * k)) ∗ (∃ d, owns (c : Thread nD τ) arg9 fullShare d)
    ∗ owns (c : Thread nD τ) arg10 fullShare (accAt x0 x1 x2 (2 * k)) ∗ owns (c : Thread nD τ) arg11 fullShare (mAt x0 x1 (2 * k)))

set_option maxHeartbeats 2000000 in
theorem trip (k : Fin k0_t1_loop.trips) (u : Unit) :
    inv x0 x1 x2 c arg3 arg4 arg6 arg7 arg8 arg9 arg10 arg11 k u
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 x0 k u)
          (inv x0 x1 x2 c arg3 arg4 arg6 arg7 arg8 arg9 arg10 arg11 (k.val + 1)) := by
  unfold inv k0_t1_body
  simp only [k0_part1_eq_skeleton, k0_part2_eq_skeleton]
  unfold owns
  iintro ⟨⟨%f3, %hf3, H3⟩, ⟨%f4, %hf4, H4⟩, ⟨%f6, %hf6, H6⟩, ⟨%d7, %f7, -, H7⟩, ⟨%f8, %hf8, H8⟩, ⟨%d9, %f9, -, H9⟩, ⟨%f10, %hf10, H10⟩, ⟨%f11, %hf11, H11⟩⟩
  sl_exec
  sl_step
  have k1 : arg3.view.readAt (Elt F) (Rect.unit (s := S16640x256) (k0_off2 k 1#32) S1664x256.size (k0_off2_inb k 0)).toLoadRect f3 = kBlk x1 (2 * k.val + 1) := by
    rw [View.readAt_unit _ _ _ (off2_eq1 k) (kOff_inb _), hf3]; rfl
  have k2 : arg3.view.readAt (Elt F) (Rect.unit (s := S16640x256) (k0_off2 k 2#32) S1664x256.size (k0_off2_inb k 1)).toLoadRect f3 = kBlk x1 (2 * k.val + 2) := by
    rw [View.readAt_unit _ _ _ (off2_eq2 k) (kOff_inb _), hf3]; rfl
  have v0 : arg4.view.readAt (Elt F) (Rect.unit (s := S1x10x128x1664) (k0_off1 k) S1x1x128x1664.size (k0_off1_inb k)).toLoadRect f4 = vBlk x2 (2 * k.val) := by
    rw [View.readAt_unit _ _ _ (off1_eq k) (vOff_inb _), hf4]; rfl
  have v1 : arg4.view.readAt (Elt F) (Rect.unit (s := S1x10x128x1664) (k0_off3 k) S1x1x128x1664.size (k0_off3_inb k)).toLoadRect f4 = vBlk x2 (2 * k.val + 1) := by
    rw [View.readAt_unit _ _ _ (off3_eq k) (vOff_inb _), hf4]; rfl
  have e133 : trip.sl.v133 c arg8 arg11 f8 f11 = mAt x0 x1 (2 * k.val + 1) := by
    unfold trip.sl.v133 trip.sl.H11_1
    rw [View.readCov_full, View.readAt_full, View.readAt_full, hf8, hf11]; rfl
  have e134 : trip.sl.v134 x0 c arg3 arg9 k f3 = mbAt x0 x1 (2 * k.val + 1) := by
    unfold trip.sl.v134 trip.sl.H9_1
    rw [View.readCov_full]; unfold trip.sl.r; rw [k1]; rfl
  have e136 : trip.sl.v136 x0 c arg3 arg7 k f3 = scAt x0 x1 (2 * k.val + 1) := by
    unfold trip.sl.v136 trip.sl.H7_1
    rw [View.readCov_full]; unfold trip.sl.r; rw [k1]; rfl
  have e147 : trip.sl.v147 c arg4 arg6 arg8 arg10 arg11 k f4 f6 f8 f10 f11 = accAt x0 x1 x2 (2 * k.val + 1) := by
    unfold trip.sl.v147 trip.sl.H10_1
    rw [View.readCov_full, View.readAt_full, View.readAt_full, View.readAt_full, View.readAt_full, hf6, hf8, hf10, hf11, v0]; rfl
  rw [show 2 * (k.val + 1) = 2 * k.val + 2 from by omega]
  isplitl [H3]; · iexists _; isplitr; · ipureintro; exact hf3
                  iexact H3
  isplitl [H4]; · iexists _; isplitr; · ipureintro; exact hf4
                  iexact H4
  isplitl [H6]
  · iexists _; isplitr; swap; · iexact H6
    ipureintro; rw [View.read_writes_full]; exact congrArg (k0_pay21 x0) k2
  isplitl [H7]
  · iexists _, _; isplitr; swap; · iexact H7
    ipureintro; rfl
  isplitl [H8]
  · iexists _; isplitr; swap; · iexact H8
    ipureintro; rw [View.read_writes_full]; exact congrArg (k0_pay22 x0) k2
  isplitl [H9]
  · iexists _, _; isplitr; swap; · iexact H9
    ipureintro; rfl
  isplitl [H10]
  · iexists _; isplitr; swap; · iexact H10
    ipureintro; rw [View.read_writes_full, e133, e134, e136, e147, v1]; rfl
  iexists _; isplitr; swap; · iexact H11
  ipureintro; rw [View.read_writes_full, e133, e134]; rfl

set_option maxHeartbeats 4000000 in
/-- The whole body at one grid point: from its blocks of the queries, keys and values, anything in the output's
    block and in the scratch, it ends with the output's block at `outAt`. -/
theorem body_run :
    (iprop(owns (c : Thread nD τ) arg2 fullShare x0 ∗ owns (c : Thread nD τ) arg3 fullShare x1 ∗ owns (c : Thread nD τ) arg4 fullShare x2
      ∗ (∃ d, owns (c : Thread nD τ) arg5 fullShare d) ∗ (∃ d, owns (c : Thread nD τ) arg6 fullShare d) ∗ (∃ d, owns (c : Thread nD τ) arg7 fullShare d)
      ∗ (∃ d, owns (c : Thread nD τ) arg8 fullShare d) ∗ (∃ d, owns (c : Thread nD τ) arg9 fullShare d) ∗ (∃ d, owns (c : Thread nD τ) arg10 fullShare d)
      ∗ (∃ d, owns (c : Thread nD τ) arg11 fullShare d)) : sProp 𝕄)
      ⊢ wp frame (wpE (defs₀ (F := F)) Variants.none (c : Thread nD τ) none) Set.univ
          (cc0_attention i arg2 harg2 arg3 harg3 arg4 harg4 arg5 harg5 arg6 harg6 arg7 harg7 arg8 harg8 arg9 harg9 arg10 harg10 arg11 harg11)
          (fun _ => iprop(owns (c : Thread nD τ) arg2 fullShare x0 ∗ owns (c : Thread nD τ) arg3 fullShare x1 ∗ owns (c : Thread nD τ) arg4 fullShare x2
            ∗ owns (c : Thread nD τ) arg5 fullShare (outAt x0 x1 x2) ∗ (∃ d, owns (c : Thread nD τ) arg6 fullShare d) ∗ (∃ d, owns (c : Thread nD τ) arg7 fullShare d)
            ∗ (∃ d, owns (c : Thread nD τ) arg8 fullShare d) ∗ (∃ d, owns (c : Thread nD τ) arg9 fullShare d) ∗ (∃ d, owns (c : Thread nD τ) arg10 fullShare d)
            ∗ (∃ d, owns (c : Thread nD τ) arg11 fullShare d))) := by
  simp only [cc0_attention_eq_skeleton]; unfold cc0_attention_skel
  simp only [k0_part3_eq_skeleton, k0_part4_eq_skeleton]
  unfold owns
  iintro ⟨⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩⟩
  sl_exec
  have hq : arg2.view.readAt (Elt F) (Rect.unit (s := S2048x256) ![0, 0] S2048x256.size inb_S2048x256_S2048x256_0_0).toLoadRect f2 = x0 := by
    rw [View.readAt_full, hf2]
  have hk0 : arg3.view.readAt (Elt F) (Rect.unit (s := S16640x256) ![0, 0] S1664x256.size inb_S16640x256_S1664x256_0_0).toLoadRect f3 = kBlk x1 0 := by
    rw [View.readAt_unit _ _ _ (show (![0, 0] : Fin 2 → ℕ) = ![0 % 10 * 1664, 0] from by decide) (kOff_inb 0), hf3]; rfl
  sl_for (inv x0 x1 x2 c arg3 arg4 arg6 arg7 arg8 arg9 arg10 arg11) $$ [H3 H4 H6 H7 H8 H9 H10 H11]
  · intro k u
    unfold body_run.sl.prog.body_1; rw [hq]
    exact trip x0 x1 x2 c i arg2 harg2 arg3 harg3 arg4 harg4 arg5 harg5 arg6 harg6 arg7 harg7 arg8 harg8 arg9 harg9 arg10 harg10 arg11 harg11 k u
  · unfold inv owns
    isplitl [H3]; · iexists _; isplitr; · ipureintro; exact hf3
                    iexact H3
    isplitl [H4]; · iexists _; isplitr; · ipureintro; exact hf4
                    iexact H4
    isplitl [H6]
    · iexists _; isplitr; swap; · iexact H6
      ipureintro; unfold body_run.sl.H6_1; rw [View.read_writes_full, hq]; exact congrArg (k0_pay18 x0) hk0
    isplitl [H7]
    · iexists _, _; isplitr; swap; · iexact H7
      ipureintro; rfl
    isplitl [H8]
    · iexists _; isplitr; swap; · iexact H8
      ipureintro; unfold body_run.sl.H8_1; rw [View.read_writes_full, hq]; exact congrArg (k0_pay19 x0) hk0
    isplitl [H9]
    · iexists _, _; isplitr; swap; · iexact H9
      ipureintro; rfl
    isplitl [H10]
    · iexists _; isplitr; swap; · iexact H10
      ipureintro; unfold body_run.sl.H10_1; rw [View.read_writes_full]; rfl
    iexists _; isplitr; swap; · iexact H11
    ipureintro; unfold body_run.sl.H11_1; rw [View.read_writes_full]; rfl
  iintro %u HI
  unfold inv owns
  icases HI with ⟨⟨%g3, %hg3, H3⟩, ⟨%g4, %hg4, H4⟩, ⟨%g6, %hg6, H6⟩, ⟨%e7, %g7, -, H7⟩, ⟨%g8, %hg8, H8⟩, ⟨%e9, %g9, -, H9⟩, ⟨%g10, %hg10, H10⟩, ⟨%g11, %hg11, H11⟩⟩
  sl_exec
  sl_step
  have h8 : 2 * Scf.trips k0_t1_loop.lb k0_t1_loop.ub k0_t1_loop.st = 8 := by decide
  rw [h8] at hg6 hg8 hg10 hg11
  have hk9 : arg3.view.readAt (Elt F) (Rect.unit (s := S16640x256) ![14976, 0] S1664x256.size inb_S16640x256_S1664x256_14976_0).toLoadRect g3 = kBlk x1 9 := by
    rw [View.readAt_unit _ _ _ (show (![14976, 0] : Fin 2 → ℕ) = ![9 % 10 * 1664, 0] from by decide) (kOff_inb 9), hg3]; rfl
  have hv8 : arg4.view.readAt (Elt F) (Rect.unit (s := S1x10x128x1664) ![0, 8, 0, 0] S1x1x128x1664.size inb_S1x10x128x1664_S1x1x128x1664_0_8_0_0).toLoadRect g4 = vBlk x2 8 := by
    rw [View.readAt_unit _ _ _ (show (![0, 8, 0, 0] : Fin 4 → ℕ) = ![0, 8 % 10, 0, 0] from by decide) (vOff_inb 8), hg4]; rfl
  have hv9 : arg4.view.readAt (Elt F) (Rect.unit (s := S1x10x128x1664) ![0, 9, 0, 0] S1x1x128x1664.size inb_S1x10x128x1664_S1x1x128x1664_0_9_0_0).toLoadRect g4 = vBlk x2 9 := by
    rw [View.readAt_unit _ _ _ (show (![0, 9, 0, 0] : Fin 4 → ℕ) = ![0, 9 % 10, 0, 0] from by decide) (vOff_inb 9), hg4]; rfl
  have er : body_run.sl.r c arg2 f2 = x0 := by unfold body_run.sl.r; exact hq
  have er1 : body_run.sl.r_1 c arg11 g11 = mAt x0 x1 8 := by unfold body_run.sl.r_1; rw [View.readAt_full, hg11]
  have er2 : body_run.sl.r_2 c arg8 arg11 g8 g11 = k0_pay23 (mAt x0 x1 8) (mbAt x0 x1 8) := by
    unfold body_run.sl.r_2; rw [View.readAt_full, View.readAt_full, hg8, hg11]
  have e59 : body_run.sl.v59 c arg8 arg11 g8 g11 = mAt x0 x1 9 := by
    unfold body_run.sl.v59 body_run.sl.H11_1_1
    refine (View.readCov_full _ _ _ _ _).trans ?_
    rw [er2]; rfl
  have e60 : body_run.sl.v60 c arg2 arg3 arg9 f2 g3 = mbAt x0 x1 9 := by
    unfold body_run.sl.v60 body_run.sl.H9_1
    refine (View.readCov_full _ _ _ _ _).trans ?_
    rw [er, hk9]; rfl
  have e62 : body_run.sl.v62 c arg2 arg3 arg7 f2 g3 = scAt x0 x1 9 := by
    unfold body_run.sl.v62 body_run.sl.H7_1
    refine (View.readCov_full _ _ _ _ _).trans ?_
    rw [er, hk9]; rfl
  have e67 : body_run.sl.v67 c arg4 g4 = vBlk x2 9 := by unfold body_run.sl.v67; exact hv9
  have e72 : body_run.sl.v72 c arg4 arg6 arg8 arg10 arg11 g4 g6 g8 g10 g11 = accAt x0 x1 x2 9 := by
    unfold body_run.sl.v72 body_run.sl.H10_1_1
    refine (View.readCov_full _ _ _ _ _).trans ?_
    rw [er1, er2, hv8, View.readAt_full, View.readAt_full, hg6, hg10]; rfl
  have e83 : body_run.sl.v83 c arg2 arg3 arg4 arg6 arg7 arg8 arg9 arg10 arg11 f2 g3 g4 g6 g8 g10 g11 = accAt x0 x1 x2 10 := by
    unfold body_run.sl.v83 body_run.sl.H10_2
    refine (View.readCov_full _ _ _ _ _).trans ?_
    rw [e59, e60, e62, e67, e72]; rfl
  isplitl [H2]; · iexists _; isplitr; · ipureintro; exact hf2
                  iexact H2
  isplitl [H3]; · iexists _; isplitr; · ipureintro; exact hg3
                  iexact H3
  isplitl [H4]; · iexists _; isplitr; · ipureintro; exact hg4
                  iexact H4
  isplitl [H5]
  · iexists _; isplitr; swap; · iexact H5
    ipureintro; refine (View.read_writes_full _ _ _ _ _).trans ?_; rw [e83]; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.KernelIdeal.Flash

end
-- ==== Proof.KernelIdeal.Run.lean ====
/-
  The attention call's run: the pipeline's proof data — after each grid point the output's staging buffer at
  what the body computes from that point's blocks (`outAt`) —, the body obligation at a generic point, the run
  to the library's final state, and the frame with every counter at zero.
-/
module

public import proofs.«01_k».proof.Proof.Gen.KernelIdeal.Frame
public import proofs.«01_k».proof.Proof.KernelIdeal.Body
public import Idealize.ShloMosaic.Lib.Claim

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging memref at point `t`, and its wholeness. -/
abbrev mQ (t : Fin cfg0.N) : Memref sig .tc .vmem S2048x256 .bf16 := win0_0.stage (cfg0.slots t 0)
abbrev hQ (t : Fin cfg0.N) : (mQ t).IsWhole := hstage0_0 ((cfg0.slots t 0).cast nbuf0_0)
abbrev mK (t : Fin cfg0.N) : Memref sig .tc .vmem S16640x256 .bf16 := win0_1.stage (cfg0.slots t 1)
abbrev hK (t : Fin cfg0.N) : (mK t).IsWhole := hstage0_1 ((cfg0.slots t 1).cast nbuf0_1)
abbrev mV (t : Fin cfg0.N) : Memref sig .tc .vmem S1x10x128x1664 .bf16 := win0_2.stage (cfg0.slots t 2)
abbrev hV (t : Fin cfg0.N) : (mV t).IsWhole := hstage0_2 ((cfg0.slots t 2).cast nbuf0_2)
abbrev mO (t : Fin cfg0.N) : Memref sig .tc .vmem S2048x128 .bf16 := win0_3.stage (cfg0.slots t 3)
abbrev hO (t : Fin cfg0.N) : (mO t).IsWhole := hstage0_3 ((cfg0.slots t 3).cast nbuf0_3)

/-- The class's invariant with the scratch as memrefs owned at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)
          ∗ (∃ d, owns (c : Thread nD τ) (Memref.whole cc0_scratch4) fullShare d) ∗ (∃ d, owns (c : Thread nD τ) (Memref.whole cc0_scratch5) fullShare d))
        ∗ (∃ r, prngReg c r)) := by
  unfold Pipeline.ΦA; rw [scopedRest0_eq]; simp only [owns_whole]; try rfl

/-- What the output's staging buffer holds after the body at point `t`. -/
def outsAt (c : Dev nD) (t : Fin cfg0.N) : Vec F S2048x128 .bf16 := outAt (X0_0 m c t) (iblk m c 1 t) (iblk m c 2 t)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = X0_0 m c t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) : (dats m 0 c).after 3 t = outsAt m c t := by dsimp only [dats]

theorem before_q (c : Dev nD) (t : Fin cfg0.N) (d) : (dats m 0 c).before 0 t d = X0_0 m c t :=
  before0_0_of m (dats m 0 c) (A_eq m c 0) (after_q m c) t d
theorem before_k (c : Dev nD) (t : Fin cfg0.N) (d) : (dats m 0 c).before 1 t d = iblk m c 1 t :=
  before0_1_of m (dats m 0 c) (A_eq m c 1) (after_k m c) t d
theorem before_v (c : Dev nD) (t : Fin cfg0.N) (d) : (dats m 0 c).before 2 t d = iblk m c 2 t :=
  before0_2_of m (dats m 0 c) (A_eq m c 2) (after_v m c) t d

/-- What the body is called with at point `t`, the windows one by one, -/
def pre (c : Dev nD) (t : Fin cfg0.N) : sProp 𝕄 :=
  iprop((dats m 0 c).Φ t.castSucc ∗ (dats m 0 c).owesAt () t.castSucc
    ∗ (∃ d, owns (c : Thread nD τ) (mQ t) fullShare ((dats m 0 c).before 0 t d))
    ∗ (∃ d, owns (c : Thread nD τ) (mK t) fullShare ((dats m 0 c).before 1 t d))
    ∗ (∃ d, owns (c : Thread nD τ) (mV t) fullShare ((dats m 0 c).before 2 t d))
    ∗ (∃ d, owns (c : Thread nD τ) (mO t) fullShare ((dats m 0 c).before 3 t d)))

/-- and what it returns. -/
def post (c : Dev nD) (t : Fin cfg0.N) : sProp 𝕄 :=
  iprop((dats m 0 c).Φ t.succ ∗ (dats m 0 c).owesAt () t.succ
    ∗ owns (c : Thread nD τ) (mQ t) fullShare ((dats m 0 c).after 0 t)
    ∗ owns (c : Thread nD τ) (mK t) fullShare ((dats m 0 c).after 1 t)
    ∗ owns (c : Thread nD τ) (mV t) fullShare ((dats m 0 c).after 2 t)
    ∗ owns (c : Thread nD τ) (mO t) fullShare ((dats m 0 c).after 3 t))

set_option maxHeartbeats 800000 in
theorem body_at (c : Dev nD) (t : Fin cfg0.N) :
    pre m c t ⊢ wp frame (wpE (defs₀ (F := F)) Variants.none c none) Set.univ (bodyAt0 t) (fun _ => post m c t) := by
  unfold pre post bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  rw [show (dats m 0 c).Φ t.castSucc = Pipeline.ΦA spec0 c from rfl, scratch_eq]
  iintro ⟨⟨⟨HS0, HS1, HS2, HS3, HS4, HS5⟩, Hg⟩, Ho, ⟨%d0, H0⟩, ⟨%d1, H1⟩, ⟨%d2, H2⟩, ⟨%d3, H3⟩⟩
  iapply (wp_wand_r Idealize.ShloMosaic.frame (wpE (defs₀ (F := F)) Variants.none (c : Thread nD τ) none) Set.univ)
  isplitl [H0 H1 H2 H3 HS0 HS1 HS2 HS3 HS4 HS5]
  · iapply (body_run (X0_0 m c t) (iblk m c 1 t) (iblk m c 2 t) c (grid0.coords t) (mQ t) (hQ t) (mK t) (hK t) (mV t) (hV t) (mO t) (hO t)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _))
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    iexact HS5
  iintro %_ ⟨H0, H1, H2, H3, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  iexact H3

theorem row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (body_at m c t) rfl .rfl fun _ => .rfl

set_option backward.isDefEq.respectTransparency.types false in
/-- The run, with every counter at zero at every final state. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiescent m ρ)

/-- The arguments end as they began. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run m ρ)

/-- The frame: the arguments end as they began, and every counter at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (args_kept m ρ) ((θ_run defs _ _).mono (fun _ h => h.2) (run_quiescent m ρ))

end Cert.KernelIdeal.Flash

end
-- ==== Proof.Online.lean ====
/-
  The softmax taken block by block: a running maximum, and running sums rescaled by the change of the maximum,
  against the sums weighted by the normalised exponentials over all keys at once, as extended reals. The scores
  are real; the values are any extended reals.
-/
module

public import Idealize.ShloMosaic.PureOps.Ideal
public import Idealize.ShloMosaic.PureOps.Ideal.Laws

@[expose] public section

noncomputable section

namespace Cert.Online

open Idealize.ShloMosaic

/-! ### Sums of extended reals against a real factor -/

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A nonnegative real factor goes into a sum of extended reals. -/
theorem real_mul_sum {ι : Type*} (s : Finset ι) (c : ℝ) (hc : 0 ≤ c) (f : ι → EReal) : (c : EReal) * ∑ i ∈ s, f i = ∑ i ∈ s, (c : EReal) * f i := by
  classical
  induction s using Finset.induction_on with
  | empty => simp
  | insert a s h ih =>
    rw [Finset.sum_insert h, Finset.sum_insert h,
      EReal.left_distrib_of_nonneg_of_ne_top (EReal.coe_nonneg.mpr hc) (EReal.coe_ne_top c), ih]

/-! ### The base-two exponential -/

theorem exp2_sub_mul (a b c : ℝ) : Ideal.exp2 ((a : EReal) - b) * Ideal.exp2 ((c : EReal) - a) = Ideal.exp2 ((c : EReal) - b) := by
  rw [← EReal.coe_sub, ← EReal.coe_sub, ← EReal.coe_sub, Ideal.exp2_coe, Ideal.exp2_coe, Ideal.exp2_coe, ← EReal.coe_mul]
  congr 1
  rw [Real.rpow_eq_pow, Real.rpow_eq_pow, Real.rpow_eq_pow, ← Real.rpow_add (by norm_num)]
  congr 1; ring

/-- `2 ^ (a - b)`, as a real. -/
abbrev pw (a b : ℝ) : ℝ := Real.rpow 2 (a - b)
theorem pw_pos (a b : ℝ) : 0 < pw a b := Real.rpow_pos_of_pos (by norm_num) _
theorem exp2_sub (a b : ℝ) : Ideal.exp2 ((a : EReal) - b) = (pw a b : EReal) := by
  rw [← EReal.coe_sub, Ideal.exp2_coe]

/-! ### The recursion -/

section
variable {K : ℕ} (S : ℕ → Fin K → ℝ)

/-- The maximum over the first `n` blocks. -/
def top (n : ℕ) : EReal := (Finset.range n).sup fun b => Finset.univ.sup fun k => (S b k : EReal)

theorem top_succ (n : ℕ) : top S (n + 1) = max (top S n) (Finset.univ.sup fun k => (S n k : EReal)) := by
  unfold top; rw [Finset.range_add_one, Finset.sup_insert]; exact sup_comm _ _

theorem top_real (hK : 0 < K) (n : ℕ) : ∃ μ : ℝ, top S (n + 1) = μ := by
  have h1 : top S (n + 1) ≠ ⊥ := by
    have : (S n ⟨0, hK⟩ : EReal) ≤ top S (n + 1) :=
      (Finset.le_sup (f := fun k => (S n k : EReal)) (Finset.mem_univ (⟨0, hK⟩ : Fin K))).trans
        (Finset.le_sup (f := fun b => Finset.univ.sup fun k => (S b k : EReal)) (Finset.mem_range.mpr (Nat.lt_succ_self n)))
    exact ne_bot_of_le_ne_bot (EReal.coe_ne_bot _) this
  have h2 : top S (n + 1) ≠ ⊤ := by
    apply ne_of_lt
    unfold top
    rw [Finset.sup_lt_iff (by exact bot_lt_top)]
    intro b _
    rw [Finset.sup_lt_iff (by exact bot_lt_top)]
    intro k _
    exact EReal.coe_lt_top _
  exact ⟨(top S (n + 1)).toReal, (EReal.coe_toReal h2 h1).symm⟩

/-- The running maximum is the maximum over the blocks so far. -/
theorem run_max (M : ℕ → EReal) (M0 : M 0 = ⊥) (M1 : ∀ n, M (n + 1) = max (M n) (Finset.univ.sup fun k => (S n k : EReal))) (n : ℕ) : M n = top S n := by
  induction n with
  | zero => rw [M0]; rfl
  | succ n ih => rw [M1, top_succ, ih]

/-- The running sum is the sum over the blocks so far, of each value by its exponential against the maximum so far. -/
theorem run_sum (hK : 0 < K) (w : ℕ → Fin K → EReal) (A : ℕ → EReal) (A0 : A 0 = 0)
    (A1 : ∀ n, A (n + 1) = Ideal.exp2 (top S n - top S (n + 1)) * A n + ∑ k, w n k * Ideal.exp2 ((S n k : EReal) - top S (n + 1))) (n : ℕ) :
    A (n + 1) = ∑ b ∈ Finset.range (n + 1), ∑ k, w b k * Ideal.exp2 ((S b k : EReal) - top S (n + 1)) := by
  induction n with
  | zero => rw [A1, A0, mul_zero, zero_add, zero_add, Finset.sum_range_one]
  | succ n ih =>
    rw [A1, ih, Finset.sum_range_succ _ (n + 1)]
    congr 1
    obtain ⟨μ, hμ⟩ := top_real S hK n
    obtain ⟨ν, hν⟩ := top_real S hK (n + 1)
    rw [hμ, hν, exp2_sub, real_mul_sum _ _ (pw_pos _ _).le]
    refine Finset.sum_congr rfl fun b _ => ?_
    rw [real_mul_sum _ _ (pw_pos _ _).le]
    refine Finset.sum_congr rfl fun k _ => ?_
    rw [mul_left_comm, ← exp2_sub, exp2_sub_mul]

/-- Dividing the running sum of the values by that of the weights is weighting by the normalised exponentials. -/
theorem run_div (hK : 0 < K) (w : ℕ → Fin K → EReal) (A L : ℕ → EReal) (A0 : A 0 = 0) (L0 : L 0 = 0)
    (A1 : ∀ n, A (n + 1) = Ideal.exp2 (top S n - top S (n + 1)) * A n + ∑ k, w n k * Ideal.exp2 ((S n k : EReal) - top S (n + 1)))
    (L1 : ∀ n, L (n + 1) = Ideal.exp2 (top S n - top S (n + 1)) * L n + ∑ k, 1 * Ideal.exp2 ((S n k : EReal) - top S (n + 1))) (n : ℕ) :
    Ideal.div (A (n + 1)) (L (n + 1))
      = ∑ b ∈ Finset.range (n + 1), ∑ k, w b k * Ideal.div (Ideal.pow ((2 : ℝ) : EReal) ((S b k : EReal) - top S (n + 1)))
          (∑ b ∈ Finset.range (n + 1), ∑ k, Ideal.pow ((2 : ℝ) : EReal) ((S b k : EReal) - top S (n + 1))) := by
  rw [run_sum S hK w A A0 A1, run_sum S hK (fun _ _ => 1) L L0 L1]
  obtain ⟨μ, hμ⟩ := top_real S hK n
  rw [hμ]
  have hpow : ∀ a : ℝ, Ideal.pow ((2 : ℝ) : EReal) ((a : EReal) - μ) = (pw a μ : EReal) := fun a => by
    rw [← EReal.coe_sub, Ideal.pow_coe_coe]
  have hl : ∑ b ∈ Finset.range (n + 1), ∑ k, (pw (S b k) μ : EReal) = ((∑ b ∈ Finset.range (n + 1), ∑ k, pw (S b k) μ : ℝ) : EReal) := by
    rw [coe_sum]; exact Finset.sum_congr rfl fun b _ => (coe_sum _ _).symm
  have hpos : 0 < ∑ b ∈ Finset.range (n + 1), ∑ k, pw (S b k) μ :=
    Finset.sum_pos (fun b _ => Finset.sum_pos (fun k _ => pw_pos _ _) ⟨⟨0, hK⟩, Finset.mem_univ _⟩) ⟨0, Finset.mem_range.mpr (Nat.succ_pos n)⟩
  simp only [hpow, exp2_sub, one_mul, hl]
  generalize (∑ b ∈ Finset.range (n + 1), ∑ k, pw (S b k) μ : ℝ) = l at hpos
  have hne : (l : EReal) ≠ 0 := by exact_mod_cast hpos.ne'
  have hdiv : ∀ x : EReal, Ideal.div x l = x * ((l⁻¹ : ℝ) : EReal) := fun x => by
    unfold Ideal.div; rw [if_neg hne, EReal.coe_inv]
  simp only [hdiv]
  rw [mul_comm, real_mul_sum _ _ (inv_nonneg.mpr hpos.le)]
  refine Finset.sum_congr rfl fun b _ => ?_
  rw [real_mul_sum _ _ (inv_nonneg.mpr hpos.le)]
  refine Finset.sum_congr rfl fun k _ => ?_
  rw [mul_left_comm, mul_comm (((l⁻¹ : ℝ) : EReal))]

end

/-! ### Blocks laid end to end -/

/-- Row `b * K + k` of the `B * K` rows. -/
def flat {B K : ℕ} (b : Fin B) (k : Fin K) : Fin (B * K) :=
  ⟨b.val * K + k.val, by
    have hb := b.isLt; have hk := k.isLt
    calc b.val * K + k.val < b.val * K + K := by omega
      _ = (b.val + 1) * K := by ring
      _ ≤ B * K := Nat.mul_le_mul_right _ hb⟩

theorem flat_surj {B K : ℕ} (r : Fin (B * K)) : ∃ b : Fin B, ∃ k : Fin K, flat b k = r := by
  have hK : 0 < K := Nat.pos_of_ne_zero fun h => by have := r.isLt; simp [h] at this
  refine ⟨⟨r.val / K, Nat.div_lt_of_lt_mul (r.isLt.trans_eq (mul_comm _ _))⟩, ⟨r.val % K, Nat.mod_lt _ hK⟩, Fin.ext ?_⟩
  show r.val / K * K + r.val % K = r.val
  exact Nat.div_add_mod' _ _

theorem sum_flat {B K : ℕ} (f : Fin (B * K) → EReal) (g : ℕ → Fin K → EReal) (h : ∀ (b : Fin B) k, f (flat b k) = g b.val k) :
    ∑ b ∈ Finset.range B, ∑ k, g b k = ∑ r, f r := by
  rw [← Fin.sum_univ_eq_sum_range (fun b => ∑ k, g b k) B, ← Equiv.sum_comp finProdFinEquiv f, Fintype.sum_prod_type]
  refine Finset.sum_congr rfl fun b _ => Finset.sum_congr rfl fun k _ => ?_
  rw [← h b k]; congr 1; apply Fin.ext
  show b.val * K + k.val = (finProdFinEquiv (b, k)).val
  rw [finProdFinEquiv_apply_val]; simp only; ring

theorem sup_flat {B K : ℕ} (f : Fin (B * K) → EReal) (S : ℕ → Fin K → ℝ) (h : ∀ (b : Fin B) k, f (flat b k) = (S b.val k : EReal)) :
    top S B = Finset.univ.sup f := by
  unfold top
  refine le_antisymm (Finset.sup_le fun b hb => Finset.sup_le fun k _ => ?_) (Finset.sup_le fun r _ => ?_)
  · rw [← h ⟨b, Finset.mem_range.mp hb⟩ k]; exact Finset.le_sup (f := f) (Finset.mem_univ _)
  · obtain ⟨b, k, rfl⟩ := flat_surj r
    rw [h]
    exact (Finset.le_sup (f := fun k => (S b k : EReal)) (Finset.mem_univ k)).trans
      (Finset.le_sup (f := fun b => Finset.univ.sup fun k => (S b k : EReal)) (Finset.mem_range.mpr b.isLt))

end Cert.Online

end
-- ==== Proof.KernelIdeal.At.lean ====
/-
  The body's payloads read at an index, as extended reals.
-/
module

public import proofs.«01_k».proof.Proof.KernelIdeal.Body
public import proofs.«01_k».proof.Proof.Online
public import Idealize.ShloMosaic.Lib.Pointwise
public import Idealize.ShloMosaic.Lib.Pipeline.ValueKit

@[expose] public section

noncomputable section

namespace Cert.KernelIdeal.Flash

open Cert.KernelIdeal Cert.KernelIdeal.Gen
open Idealize.ShloMosaic

theorem negInf : Ideal.ofBits .f32 0xFF800000#32 = ⊥ := by simp [Ideal.ofBits, Ideal.ieee]

theorem pay17_at (q : Vec Ideal S2048x256 .bf16) (kb : Vec Ideal S1664x256 .bf16) (r : Fin 1664) (c : Fin 2048) :
    k0_pay17 q kb (ix2 r c) = ∑ d : Fin 256, kb (ix2 r d) * q (ix2 c d) := by
  pointwise [k0_pay17]

theorem pay18_at (q : Vec Ideal S2048x256 .bf16) (kb : Vec Ideal S1664x256 .bf16) (r : Fin 1664) (c : Fin 2048) :
    k0_pay18 q kb (ix2 r c) = ∑ d : Fin 256, kb (ix2 r d) * q (ix2 c d) := by
  pointwise [k0_pay18, k0_pay17]

theorem pay19_at (q : Vec Ideal S2048x256 .bf16) (kb : Vec Ideal S1664x256 .bf16) (c : Fin 2048) :
    k0_pay19 q kb (ix2 0 c) = Finset.univ.sup fun r : Fin 1664 => k0_pay17 q kb (ix2 r c) := by
  pointwise [k0_pay19]
  rw [negInf]; rfl

theorem pay7_at (m mb : Vec Ideal S1x2048 .f32) (c : Fin 2048) : k0_pay7 m mb (ix2 0 c) = max (m (ix2 0 c)) (mb (ix2 0 c)) := by
  pointwise [k0_pay7, k0_pay5]

theorem pay6_at (m mb : Vec Ideal S1x2048 .f32) (s : Vec Ideal S1664x2048 .f32) (v : Vec Ideal S1x1x128x1664 .bf16) (acc : Vec Ideal S256x2048 .f32)
    (r : Fin 256) (c : Fin 2048) :
    k0_pay6 k0_pay14 m mb s v acc (ix2 r c)
      = Ideal.exp2 (m (ix2 0 c) - max (m (ix2 0 c)) (mb (ix2 0 c))) * acc (ix2 r c)
        + ∑ k : Fin 1664, (if h : r.val < 128 then v (ix4 0 0 ⟨r.val, h⟩ k) else 1) * Ideal.exp2 (s (ix2 k c) - max (m (ix2 0 c)) (mb (ix2 0 c))) := by
  pointwise [k0_pay6, k0_pay5, k0_pay14]
  rfl

theorem pay4_at (acc : Vec Ideal S256x2048 .f32) (c : Fin 2048) (d : Fin 128) :
    k0_pay4 acc (ix2 c d) = Ideal.div (acc (ix2 ⟨d.val, by omega⟩ c)) (acc (ix2 ⟨128 + d.val, by omega⟩ c)) := by
  pointwise [k0_pay4]

theorem pay15_at (c : Fin 2048) : (k0_pay15 : FVec Ideal S1x2048 .f32) (ix2 0 c) = ⊥ := by
  pointwise [k0_pay15]
  exact negInf
theorem pay16_at (r : Fin 256) (c : Fin 2048) : (k0_pay16 : FVec Ideal S256x2048 .f32) (ix2 r c) = 0 := by
  pointwise [k0_pay16]

/-! ### The block's queries against all keys -/

theorem kBlk_at (x1 : Vec Ideal S16640x256 .bf16) (b : Fin 10) (k : Fin 1664) (d : Fin 256) :
    kBlk x1 b.val (ix2 k d) = x1 (ix2 (Online.flat b k) d) := by
  have hb : b.val % 10 = b.val := Nat.mod_eq_of_lt b.isLt
  unfold kBlk VecWindow.window
  congr 1; funext a; apply Fin.ext; rw [ValueKit.rect_emb_unit_val]
  fin_cases a
  · show b.val % 10 * 1664 + k.val = b.val * 1664 + k.val; rw [hb]
  · show 0 + d.val = d.val; omega

theorem vBlk_at (x2 : Vec Ideal S1x10x128x1664 .bf16) (b : Fin 10) (d : Fin 128) (k : Fin 1664) :
    vBlk x2 b.val (ix4 0 0 d k) = x2 (ix4 0 b d k) := by
  have hb : b.val % 10 = b.val := Nat.mod_eq_of_lt b.isLt
  unfold vBlk VecWindow.window
  congr 1; funext a; apply Fin.ext; rw [ValueKit.rect_emb_unit_val]
  fin_cases a
  · show 0 + 0 = 0; rfl
  · show b.val % 10 + 0 = b.val; omega
  · show 0 + d.val = d.val; omega
  · show 0 + k.val = k.val; omega

section
variable (x0 : Vec Ideal S2048x256 .bf16) (x1 : Vec Ideal S16640x256 .bf16) (x2 : Vec Ideal S1x10x128x1664 .bf16)
  (c : Fin 2048) (S : ℕ → Fin 1664 → ℝ) (hS : ∀ b k, scAt x0 x1 b (ix2 k c) = (S b k : EReal))

include hS in
theorem mbAt_at (n : ℕ) : mbAt x0 x1 n (ix2 0 c) = Finset.univ.sup fun k => (S n k : EReal) := by
  unfold mbAt; rw [pay19_at]
  congr 1; funext k; rw [← hS]; unfold scAt; rw [pay17_at, pay18_at]

include hS in
theorem mAt_at (n : ℕ) : mAt x0 x1 n (ix2 0 c) = Online.top S n := by
  refine Online.run_max S (fun n => mAt x0 x1 n (ix2 0 c)) (pay15_at c) (fun n => ?_) n
  show k0_pay7 _ _ _ = _
  rw [pay7_at, mbAt_at x0 x1 c S hS]

include hS in
theorem accAt_succ (r : Fin 256) (n : ℕ) :
    accAt x0 x1 x2 (n + 1) (ix2 r c) = Ideal.exp2 (Online.top S n - Online.top S (n + 1)) * accAt x0 x1 x2 n (ix2 r c)
      + ∑ k : Fin 1664, (if h : r.val < 128 then vBlk x2 n (ix4 0 0 ⟨r.val, h⟩ k) else 1) * Ideal.exp2 ((S n k : EReal) - Online.top S (n + 1)) := by
  show k0_pay6 _ _ _ _ _ _ _ = _
  rw [pay6_at, mbAt_at x0 x1 c S hS, mAt_at x0 x1 c S hS, ← Online.top_succ]
  simp only [hS]

include hS in
/-- What the body stores: the values weighted by the normalised exponentials of the scores. -/
theorem outAt_at (d : Fin 128) :
    outAt x0 x1 x2 (ix2 c d)
      = ∑ b ∈ Finset.range 10, ∑ k, vBlk x2 b (ix4 0 0 d k) * Ideal.div (Ideal.pow ((2 : ℝ) : EReal) ((S b k : EReal) - Online.top S 10))
          (∑ b ∈ Finset.range 10, ∑ k, Ideal.pow ((2 : ℝ) : EReal) ((S b k : EReal) - Online.top S 10)) := by
  unfold outAt; rw [pay4_at]
  refine Online.run_div S (by decide) (fun n k => vBlk x2 n (ix4 0 0 d k)) (fun n => accAt x0 x1 x2 n (ix2 ⟨d.val, by omega⟩ c))
    (fun n => accAt x0 x1 x2 n (ix2 ⟨128 + d.val, by omega⟩ c)) (pay16_at _ c) (pay16_at _ c) (fun n => ?_) (fun n => ?_) 9
  · rw [accAt_succ x0 x1 x2 c S hS]; simp only [Fin.isLt, dite_true]
  · rw [accAt_succ x0 x1 x2 c S hS]
    have h : ¬ (128 + d.val < 128) := by omega
    simp only [h, dite_false]

end

end Cert.KernelIdeal.Flash

end
-- ==== Proof.KernelIdeal.Final.lean ====
/-
  The attention call's result: which grid point writes an entry of it, and the entries of the arguments that
  point's blocks hold.
-/
module

public import proofs.«01_k».proof.Proof.KernelIdeal.Run
public import proofs.«01_k».proof.Proof.KernelIdeal.At
public import Idealize.ShloMosaic.Lib.Pipeline.Value

@[expose] public section

noncomputable section

namespace Cert.KernelIdeal.Flash

open Cert.KernelIdeal Cert.KernelIdeal.Gen
open Idealize.ShloMosaic Idealize.ShloMosaic.TcCoe
open Idealize.ShloMosaic.Pipeline (Dat)

variable (m : (ℓ : Loc nD τ sig) → Buf (Elt Ideal) ℓ) (ρ : Dev nD → PrngReg)

/-- The point of head `h` and block of queries `i`. -/
def pt (h : Fin 16) (i : Fin 8) : Fin cfg0.N := ⟨h.val * 8 + i.val, by
  have : cfg0.N = 128 := by decide
  rw [this]; omega⟩

theorem index_q : ∀ (h : Fin 16) (i : Fin 8), win0_0.index (pt h i) = ![i.val, h.val] := by decide +kernel
theorem index_k : ∀ (h : Fin 16) (i : Fin 8), win0_1.index (pt h i) = ![0, h.val] := by decide +kernel
theorem index_v : ∀ (h : Fin 16) (i : Fin 8), win0_2.index (pt h i) = ![h.val, 0, 0, 0] := by decide +kernel
theorem index_o : ∀ (h : Fin 16) (i : Fin 8), win0_3.index (pt h i) = ![i.val, h.val] := by decide +kernel

theorem index_inj : ∀ t t' : Fin cfg0.N, win0_3.index t = win0_3.index t' → t = t' :=
  (by decide +kernel : ∀ t t' : Fin grid0.N, win0_3.index t = win0_3.index t' → t = t')

theorem blocks_apart : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (index_inj t t' h)

theorem xsize_o : ∀ t : Fin cfg0.N, ∀ a, (cfg0.win 3).xsize (cfg0.grid.coords t) a = (cfg0.win 3).size a := by decide +kernel

/-- Block `t` of the final array is what the body left there. -/
theorem block_at (c : Dev nD) (t : Fin cfg0.N) (y : ((cfg0.win 3).xblock (cfg0.grid.coords t)).Idx) :
    (dats m 0 c).arrAt 3 cfg0.N (((cfg0.win 3).blk t).view.emb y) = outsAt m c t ((cfg0.win 3).xinj (cfg0.grid.coords t) y) := by
  have h := congrFun ((dats m 0 c).read_blk_arrAt_eq_flushed 3 blocks_apart cfg0.N t t.isLt (flush0_3 t)) y
  rw [Dat.flushed_apply, after_o] at h
  rw [← h]; rfl

theorem final_at (c : Dev nD) (h : Fin 16) (i : Fin 8) (a : Fin 2048) (d : Fin 128) (j : S16640x2048.Idx)
    (h0 : (j 0).val = i.val * 2048 + a.val) (h1 : (j 1).val = h.val * 128 + d.val) :
    (dats m 0 c).arrAt 3 cfg0.N j = outsAt m c (pt h i) (ix2 a d) := by
  let y : ((cfg0.win 3).xblock (cfg0.grid.coords (pt h i))).Idx := fun ax => ⟨((ix2 a d : S2048x128.Idx) ax).val, by
    show _ < (cfg0.win 3).xsize (cfg0.grid.coords (pt h i)) ax
    rw [xsize_o]; exact ((ix2 a d : S2048x128.Idx) ax).isLt⟩
  have hy := block_at m c (pt h i) y
  have e1 : ((cfg0.win 3).blk (pt h i)).view.emb y = j := by
    have y0 : ((y 0).val : ℕ) = a.val := rfl
    have y1 : ((y 1).val : ℕ) = d.val := rfl
    blk_ext [index_o h i]
  have e2 : (cfg0.win 3).xinj (cfg0.grid.coords (pt h i)) y = ix2 a d := by
    funext ax; rfl
  rw [e1, e2] at hy
  exact hy

/-! ### The blocks of the arguments -/

theorem q_at (c : Dev nD) (h : Fin 16) (i : Fin 8) (a : Fin 2048) (e : Fin 256) :
    X0_0 m c (pt h i) (ix2 a e) = m ((c : Thread nD τ).loc main_arg0) (ix2 ⟨i.val * 2048 + a.val, by omega⟩ ⟨h.val * 256 + e.val, by omega⟩) := by
  unfold X0_0 Pipeline.Window.fill
  rw [dif_pos (moved0_0 (pt h i) (ix2 a e))]
  blk_simp [iblk]
  rw [V_main_arg0]
  congr 1
  blk_ext [index_q h i]

theorem k_at (c : Dev nD) (h : Fin 16) (i : Fin 8) (r : Fin 16640) (e : Fin 256) :
    (iblk m c 1 (pt h i) : Vec Ideal S16640x256 .bf16) (ix2 r e) = m ((c : Thread nD τ).loc main_arg1) (ix2 r ⟨h.val * 256 + e.val, by omega⟩) := by
  blk_simp [iblk]
  rw [V_main_arg1]
  congr 1
  blk_ext [index_k h i]

theorem values_at (c : Dev nD) (h : Fin 16) (b : Fin 10) (d : Fin 128) (k : Fin 1664) :
    V m c main_v1 (ix4 h b d k) = m ((c : Thread nD τ).loc main_arg2) (ix2 ⟨b.val * 1664 + k.val, by omega⟩ ⟨h.val * 128 + d.val, by omega⟩) := by
  entry_read
  pointwise

theorem v_at (c : Dev nD) (h : Fin 16) (i : Fin 8) (b : Fin 10) (d : Fin 128) (k : Fin 1664) :
    (iblk m c 2 (pt h i) : Vec Ideal S1x10x128x1664 .bf16) (ix4 0 b d k)
      = m ((c : Thread nD τ).loc main_arg2) (ix2 ⟨b.val * 1664 + k.val, by omega⟩ ⟨h.val * 128 + d.val, by omega⟩) := by
  rw [← values_at m c h b d k]
  blk_simp [iblk]
  congr 1
  blk_ext [index_v h i]

end Cert.KernelIdeal.Flash

end
-- ==== Proof.KernelIdeal.Value.lean ====
/-
  What the kernel leaves in a latent row is the softmax average of the values, as one sum over all the keys.
-/
module

public import proofs.«01_k».proof.Proof.KernelIdeal.Final

@[expose] public section

noncomputable section

namespace Cert.KernelIdeal.Flash

open Cert.KernelIdeal Cert.KernelIdeal.Gen
open Idealize.ShloMosaic Idealize.ShloMosaic.TcCoe Idealize.SL.Sem

variable (m : (ℓ : Loc nD τ sig) → Buf (Elt Ideal) ℓ)

/-- The scores as real numbers. -/
def realScore (q k : S16640x4096.Idx → ℝ) (h : Fin 16) (i j : Fin 16640) : ℝ :=
  ∑ e : Fin 256, q (ix2 i ⟨h.val * 256 + e.val, by omega⟩) * k (ix2 j ⟨h.val * 256 + e.val, by omega⟩)

theorem kBlk_mod (x : Vec Ideal S16640x256 .bf16) (b : ℕ) : kBlk x b = kBlk x (b % 10) := by
  have e : ∀ o o' : ℕ, o = o' → ∀ ho ho', VecWindow.window x ![o * 1664, 0] S1664x256.size ho = VecWindow.window x ![o' * 1664, 0] S1664x256.size ho' :=
    fun o o' h _ _ => by subst h; rfl
  exact e _ _ (Nat.mod_mod _ _).symm _ _

theorem value_at (c : Dev nD) (v : FVec Ideal S16640x2048 .bf16) (hv : m ((c : Thread nD τ).loc main_arg2) = v) (q k : S16640x4096.Idx → ℝ)
    (hq : ∀ x, m ((c : Thread nD τ).loc main_arg0) x = (q x : EReal)) (hk : ∀ x, m ((c : Thread nD τ).loc main_arg1) x = (k x : EReal))
    (h : Fin 16) (i : Fin 8) (a : Fin 2048) (d : Fin 128) (s : Fin 16640 → EReal)
    (hs : ∀ r, s r = (realScore q k h ⟨i.val * 2048 + a.val, by omega⟩ r : EReal)) :
    outsAt m c (pt h i) (ix2 a d)
      = ∑ j : Fin 16640, v (ix2 j ⟨h.val * 128 + d.val, by omega⟩)
          * Ideal.div (Ideal.pow ((2 : ℝ) : EReal) (s j - Finset.univ.sup s))
              (∑ j' : Fin 16640, Ideal.pow ((2 : ℝ) : EReal) (s j' - Finset.univ.sup s)) := by
  let S : ℕ → Fin 1664 → ℝ := fun b r =>
    realScore q k h ⟨i.val * 2048 + a.val, by omega⟩ (Online.flat (⟨b % 10, Nat.mod_lt _ (by decide)⟩ : Fin 10) r)
  have hS : ∀ b r, scAt (X0_0 m c (pt h i)) (iblk m c 1 (pt h i)) b (ix2 r a) = (S b r : EReal) := fun b r => by
    unfold scAt
    rw [kBlk_mod, pay18_at]
    show _ = ((∑ e : Fin 256, _ : ℝ) : EReal)
    rw [Online.coe_sum]
    refine Finset.sum_congr rfl fun e _ => ?_
    rw [kBlk_at _ (⟨b % 10, Nat.mod_lt _ (by decide)⟩ : Fin 10), k_at, q_at, hq, hk, EReal.coe_mul, mul_comm]
  have hflat : ∀ (b : Fin 10) (r : Fin 1664), s (Online.flat b r) = (S b.val r : EReal) := fun b r => by
    rw [hs]
    have hb : (⟨b.val % 10, Nat.mod_lt _ (by decide)⟩ : Fin 10) = b := Fin.ext (Nat.mod_eq_of_lt b.isLt)
    show _ = ((realScore q k h _ (Online.flat (⟨b.val % 10, Nat.mod_lt _ (by decide)⟩ : Fin 10) r) : ℝ) : EReal)
    rw [hb]
  have htop : Online.top S 10 = Finset.univ.sup s := Online.sup_flat (B := 10) (K := 1664) s S hflat
  rw [show outsAt m c (pt h i) = outAt (X0_0 m c (pt h i)) (iblk m c 1 (pt h i)) (iblk m c 2 (pt h i)) from rfl,
    outAt_at _ _ _ a S hS d, htop]
  have hden := Online.sum_flat (B := 10) (K := 1664) (fun j' => Ideal.pow ((2 : ℝ) : EReal) (s j' - Finset.univ.sup s))
    (fun b r => Ideal.pow ((2 : ℝ) : EReal) ((S b r : EReal) - Finset.univ.sup s)) (fun b r => by rw [hflat])
  rw [hden]
  refine Online.sum_flat (B := 10) (K := 1664) _ _ fun b r => ?_
  rw [vBlk_at, v_at, hflat, hv]
  rfl

/-- The kernel's run: the result array is the pipeline's last, the arguments are kept. -/
theorem run_value (ρ : Dev nD → PrngReg) :
    θ_run defs (onTc (τ := τ) (main (F := Ideal))) ⟨m, fun _ => 0, ρ⟩ fun r => ∀ c : Dev nD,
      r.2.mem ((c : Thread nD τ).loc main_v2) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h.1 c).1 3, h.2 c⟩) (θ_run_and (run m ρ) (args_kept m ρ))

end Cert.KernelIdeal.Flash

end
-- ==== Proof.ReferenceIdeal.At.lean ====
/-
  The reference's softmax, stage by stage, read at an index as extended reals.
-/
module

public import proofs.«01_k».proof.Proof.Gen.ReferenceIdeal.Run
public import proofs.«01_k».proof.Proof.Online
public import Idealize.ShloMosaic.Lib.Pointwise
public import Idealize.ShloMosaic.PureOps.Reduce
public import Idealize.ShloMosaic.Lib.Pipeline.ValueKit

@[expose] public section

noncomputable section

namespace Cert.ReferenceIdeal.Soft

open Cert.ReferenceIdeal Cert.ReferenceIdeal.Gen
open Idealize.ShloMosaic

abbrev QK := FVec Ideal S16640x4096 .bf16
abbrev VV := FVec Ideal S16640x2048 .bf16
abbrev Sq := FVec Ideal S16x16640x16640 .f32

/-- Scores of every head. -/
def score (q k : QK) : Sq :=
  Host.dotGeneral dot_S16640x16x256_S16640x16x256_S16x16640x16640_2_2_0_0_1_1 none
    (shapeCast _ q shapeCasts_S16640x4096_S16640x16x256) (shapeCast _ k shapeCasts_S16640x4096_S16640x16x256)

/-- Each row's maximum. -/
def rowMax (s : Sq) : FVec Ideal S16x16640 .f32 :=
  Host.reduce (FloatOps.maximumf (F := Ideal)) s (constant (F := Ideal) S_ .f32 0xFF800000#32) reducesTo_S16x16640x16640_S16x16640_d2 h_S_

/-- Powers of two of the scores less a row value. -/
def power (s : Sq) (mx : FVec Ideal S16x16640 .f32) : Sq :=
  Host.powf (broadcastInDim S16x16640x16640 ![] bcast_S_S16x16640x16640 (constant (F := Ideal) S_ .f32 0x40000000#32))
    (subf s (broadcastInDim S16x16640x16640 ![0, 1, 2] bcast_S16x16640x1_S16x16640x16640_0_1_2
      (broadcastInDim S16x16640x1 ![0, 1] bcast_S16x16640_S16x16640x1_0_1 mx)))

/-- The powers over their row sums. -/
def weight (e : Sq) : Sq :=
  Host.divf e (broadcastInDim S16x16640x16640 ![0, 1, 2] bcast_S16x16640x1_S16x16640x16640_0_1_2
    (broadcastInDim S16x16640x1 ![0, 1] bcast_S16x16640_S16x16640x1_0_1
      (Host.reduceAdd e (constant (F := Ideal) S_ .f32 0x00000000#32) reducesTo_S16x16640x16640_S16x16640_d2 h_S_)))

/-- The weighted values, heads side by side. -/
def mix (w : Sq) (v : VV) : VV :=
  shapeCast _ (truncf .bf16 (transpose S16640x16x128 [2, 0, 1]
    (Host.dotGeneral dot_S16640x16x128_S16x16640x16640_S16x128x16640_0_2_2_1_1_0 none
      (shapeCast _ v shapeCasts_S16640x2048_S16640x16x128) (truncf .bf16 w bitsLt_bf16_f32))
    transposes_S16x128x16640_S16640x16x128_2_0_1) bitsLt_bf16_f32) shapeCasts_S16640x16x128_S16640x2048

/-- The whole of the reference. -/
def whole (q k : QK) (v : VV) : VV := mix (weight (power (score q k) (rowMax (score q k)))) v

theorem two : Ideal.ofBits .f32 0x40000000#32 = ((2 : ℝ) : EReal) := by simp [Ideal.ofBits, Ideal.ieee]; rw [← EReal.coe_mul]; norm_num

theorem score_at (q k : QK) (h : Fin 16) (i j : Fin 16640) :
    score q k (ix3 h i j) = ∑ e : Fin 256, q (ix2 i ⟨h.val * 256 + e.val, by omega⟩) * k (ix2 j ⟨h.val * 256 + e.val, by omega⟩) := by
  pointwise [score]

theorem rowMax_at (s : Sq) (h : Fin 16) (i : Fin 16640) :
    rowMax s (ix2 h i) = Finset.univ.sup fun j : Fin 16640 => s (ix3 h i j) := by
  unfold rowMax
  rw [Host.reduce_eq_fold_single (f := FloatOps.maximumf) (h := by decide)]
  have e : ∀ j : Fin 16640, (show S16x16640x16640.Reduces [2] S16x16640 by decide).lift (ix2 h i) j = ix3 h i j :=
    fun j => by funext d; fin_cases d <;> rfl
  show Finset.fold max (Ideal.ofBits .f32 0xFF800000#32) _ _ = _
  rw [show Ideal.ofBits .f32 0xFF800000#32 = ⊥ by simp [Ideal.ofBits, Ideal.ieee]]
  exact congrArg (fun f => Finset.fold max (⊥ : EReal) f Finset.univ) (funext fun j => congrArg s (e j))

theorem power_at (s : Sq) (mx : FVec Ideal S16x16640 .f32) (h : Fin 16) (i j : Fin 16640) :
    power s mx (ix3 h i j) = Ideal.pow ((2 : ℝ) : EReal) (s (ix3 h i j) - mx (ix2 h i)) := by
  pointwise [power]
  rw [two]

theorem weight_at (e : Sq) (h : Fin 16) (i j : Fin 16640) :
    weight e (ix3 h i j) = Ideal.div (e (ix3 h i j)) (∑ j' : Fin 16640, e (ix3 h i j')) := by
  pointwise [weight]

theorem mix_at (w : Sq) (v : VV) (h : Fin 16) (i : Fin 16640) (d : Fin 128) :
    mix w v (ix2 i ⟨h.val * 128 + d.val, by omega⟩)
      = ∑ j : Fin 16640, v (ix2 j ⟨h.val * 128 + d.val, by omega⟩) * w (ix3 h i j) := by
  pointwise [mix]

theorem whole_at (q k : QK) (v : VV) (h : Fin 16) (i : Fin 16640) (d : Fin 128) (s : Fin 16640 → EReal)
    (hs : ∀ j, score q k (ix3 h i j) = s j) :
    whole q k v (ix2 i ⟨h.val * 128 + d.val, by omega⟩)
      = ∑ j : Fin 16640, v (ix2 j ⟨h.val * 128 + d.val, by omega⟩)
          * Ideal.div (Ideal.pow ((2 : ℝ) : EReal) (s j - Finset.univ.sup s))
              (∑ j' : Fin 16640, Ideal.pow ((2 : ℝ) : EReal) (s j' - Finset.univ.sup s)) := by
  have hp : ∀ j, power (score q k) (rowMax (score q k)) (ix3 h i j)
      = Ideal.pow ((2 : ℝ) : EReal) (s j - Finset.univ.sup s) := fun j => by
    rw [power_at, rowMax_at, hs, show (fun j => score q k (ix3 h i j)) = s from funext hs]
  rw [whole, mix_at]
  refine Finset.sum_congr rfl fun j _ => ?_
  rw [weight_at, hp, Finset.sum_congr rfl fun j' _ => hp j']

end Cert.ReferenceIdeal.Soft

end
-- ==== Proof.Claims.lean ====
/-
  The precondition and the row mask read back, and the attention's two programs brought together.
-/
module

public import proofs.«01_k».proof.Defs
public import proofs.«01_k».proof.Proof.Gen.On_latent_rows
public import proofs.«01_k».proof.Proof.Gen.Pre_finite_scores
public import proofs.«01_k».proof.Proof.KernelIdeal.Value
public import proofs.«01_k».proof.Proof.ReferenceIdeal.At
public import Idealize.ShloMosaic.Lib.ReduceAll
public import Idealize.ShloMosaic.Lib.Claim

@[expose] public section

noncomputable section

namespace Cert.Attention

open Idealize.ShloMosaic Idealize.ShloMosaic.TcCoe Idealize.SL.Sem

abbrev QK := FVec Ideal KernelIdeal.S16640x4096 .bf16
abbrev VV := FVec Ideal KernelIdeal.S16640x2048 .bf16

/-- An ideal value whose absolute value lies below +∞ is a real number. -/
theorem real_of_abs_lt (x : EReal) (h : max x (-x) < ⊤) : ∃ r : ℝ, x = r := by
  induction x using EReal.rec with
  | bot => simp at h
  | coe r => exact ⟨r, rfl⟩
  | top => simp at h

theorem inf : Ideal.ofBits .f32 0x7F800000#32 = ⊤ := by simp [Ideal.ofBits, Ideal.ieee]

instance : Subsingleton Pre_finite_scores.S_.Idx := ⟨fun a b => funext fun d => d.elim0⟩

theorem finite_of_word (x : EReal) (h : BitVec.ofBool (decide (max x (-x) < Ideal.ofBits .f32 0x7F800000#32)) = 1#1) : ∃ r : ℝ, x = r := by
  rw [inf] at h
  by_cases hx : max x (-x) < ⊤
  · exact real_of_abs_lt x hx
  · rw [decide_eq_false hx] at h; exact absurd h (by decide)

theorem finite_of_pre (q k : QK) (v : VV) (h : Pre_finite_scores.fn q k v = fun _ => 1#1) :
    (∀ x, ∃ r : ℝ, q x = r) ∧ (∀ x, ∃ r : ℝ, k x = r) := by
  have h0 := congrFun h (Shape.Idx.first Pre_finite_scores.Facts.h_S_)
  dsimp only [Pre_finite_scores.fn] at h0
  obtain ⟨ha, hb⟩ := IntOp.andi_eq_one.1 h0
  exact ⟨fun x => finite_of_word (q x) (Host.reduce_andi_all _ _ _ _ _ ha x), fun x => finite_of_word (k x) (Host.reduce_andi_all _ _ _ _ _ hb x)⟩

theorem row_of_mask (q k : QK) (v : VV) (i : KernelIdeal.S16640x2048.Idx) (h : On_latent_rows.fn q k v i = 1#1) : (i 0).val < 16384 := by
  dsimp only [On_latent_rows.fn] at h
  have h1 : (BitVec.ofNat 32 (i 0).val).toInt < (16384#32).toInt := IntOp.cmpi_slt.1 h
  have h2 : (i 0).val < 16640 := (i 0).isLt
  have h3 : (BitVec.ofNat 32 (i 0).val).toNat = (i 0).val := by rw [BitVec.toNat_ofNat]; exact Nat.mod_eq_of_lt (by omega)
  rw [BitVec.toInt_eq_toNat_of_lt (by rw [h3]; omega), h3, show (16384#32).toInt = 16384 by decide] at h1
  omega

theorem equal_at (m : (ℓ : Loc KernelIdeal.nD KernelIdeal.τ KernelIdeal.sig) → Buf (Elt Ideal) ℓ) (c : Dev KernelIdeal.nD) (q k : QK) (v : VV)
    (eq : m ((c : Thread KernelIdeal.nD KernelIdeal.τ).loc KernelIdeal.main_arg0) = q)
    (ek : m ((c : Thread KernelIdeal.nD KernelIdeal.τ).loc KernelIdeal.main_arg1) = k)
    (ev : m ((c : Thread KernelIdeal.nD KernelIdeal.τ).loc KernelIdeal.main_arg2) = v)
    (fq : ∀ x, ∃ r : ℝ, q x = r) (fk : ∀ x, ∃ r : ℝ, k x = r)
    (j : KernelIdeal.S16640x2048.Idx) (hj : (j 0).val < 16384) :
    (KernelIdeal.Flash.dats m 0 c).arrAt 3 KernelIdeal.cfg0.N j = ReferenceIdeal.Soft.whole q k v j := by
  choose qr hq using fq
  choose kr hk using fk
  have h1 : (j 1).val < 2048 := (j 1).isLt
  obtain ⟨i, a, ia⟩ : ∃ i : Fin 8, ∃ a : Fin 2048, (j 0).val = i.val * 2048 + a.val :=
    ⟨⟨(j 0).val / 2048, by omega⟩, ⟨(j 0).val % 2048, by omega⟩, by dsimp only; omega⟩
  obtain ⟨h, d, hd⟩ : ∃ h : Fin 16, ∃ d : Fin 128, (j 1).val = h.val * 128 + d.val :=
    ⟨⟨(j 1).val / 128, by omega⟩, ⟨(j 1).val % 128, by omega⟩, by dsimp only; omega⟩
  let s : Fin 16640 → EReal := fun r => (KernelIdeal.Flash.realScore qr kr h ⟨i.val * 2048 + a.val, by omega⟩ r : EReal)
  have hs : ∀ r, ReferenceIdeal.Soft.score q k (ix3 h ⟨i.val * 2048 + a.val, by omega⟩ r) = s r := fun r => by
    rw [ReferenceIdeal.Soft.score_at]
    show _ = ((∑ e : Fin 256, _ : ℝ) : EReal)
    rw [Online.coe_sum]
    exact Finset.sum_congr rfl fun e _ => by rw [hq, hk, EReal.coe_mul]
  have ej : j = ix2 (⟨i.val * 2048 + a.val, by omega⟩ : Fin 16640) (⟨h.val * 128 + d.val, by omega⟩ : Fin 2048) := by
    funext b; apply Fin.ext; fin_cases b
    · exact ia
    · exact hd
  rw [KernelIdeal.Flash.final_at m c h i a d j ia hd, ej,
    KernelIdeal.Flash.value_at m c v ev qr kr (fun x => by rw [eq]; exact hq x) (fun x => by rw [ek]; exact hk x) h i a d s (fun _ => rfl)]
  exact (ReferenceIdeal.Soft.whole_at q k v h _ d s hs).symm

end Cert.Attention

end
-- ==== Proof.Linear.FfnUp.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit

@[expose] public section

set_option maxRecDepth 16384

noncomputable section

namespace Cert.Kernel2Ideal.Linear

open Cert.Kernel2Ideal Cert.Kernel2Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0] ∧ win0_1.index t = ![0, 0, (grid0.coords t 1).val]
    ∧ win0_2.index t = ![0, 0, (grid0.coords t 1).val] ∧ win0_3.index t = ![(grid0.coords t 0).val, (grid0.coords t 1).val] :=
  (by decide +kernel : ∀ t : Fin grid0.N, _)

/-- The gated pair of projections of the feed-forward part, entry by entry. -/
theorem value : algebraic_Kernel2Ideal_Reference2Ideal := fun m g m' g' _ hargs => by
  refine ⟨fun c => (dats m 0 c).arrAt 3 cfg0.N, Value.run_blocks m g,
    (θ_run _ _ _).mono (fun r h c => ⟨?_, (h c).2⟩) (Reference2Ideal.Value.run m' g')⟩
  rw [(h c).1, (hargs c).1, (hargs c).2.1, (hargs c).2.2]
  clear h
  symm
  refine (dats m 0 c).arrAt_eq_of_covers 3 _ (by decide +kernel) fun t hf y => ?_
  blk_simp
  rw [after0_3]; frame_out
  pointwise [k0_pay1]
  simp only [Ideal.logistic]
  blk_point [iblk, V, idx t]

/-- The reference's frame: its run keeps the arguments, and it declares no semaphores. -/
theorem reference_frame : quiescent_Reference2Ideal := fun m g _ =>
  (θ_run _ _ _).mono (fun r h => ⟨fun c => (h c).2, sem_eq_zero_of_no_sems (by decide) r.2⟩) (Reference2Ideal.Value.run m g)

end Cert.Kernel2Ideal.Linear

end
-- ==== Proof.Linear.Gate.lean ====
module

public import Idealize.ShloMosaic.Lib.Pipeline.ValueKit

@[expose] public section

noncomputable section

namespace Cert.Linear

open Idealize.ShloMosaic

/-- The rows' gate: at row `y` of tile `a`, the tiles of `b` rows, the first choice from row `n` on and the second before it. -/
theorem select_row {α : Type} (a b y n : ℕ) (u v : α) (h : a * b + y < 2 ^ 31) (hn : n < 2 ^ 31) :
    Scalar.select (IntOp.cmpi .sge (IntOp.addi (Scalar.muli (BitVec.ofNat 32 a) (BitVec.ofNat 32 b)) (BitVec.ofNat 32 y)) (BitVec.ofNat 32 n)) u v
      = if a * b + y < n then v else u := by
  have hw : IntOp.addi (Scalar.muli (BitVec.ofNat 32 a) (BitVec.ofNat 32 b)) (BitVec.ofNat 32 y) = BitVec.ofNat 32 (a * b + y) := by
    show BitVec.ofNat 32 a * BitVec.ofNat 32 b + BitVec.ofNat 32 y = _
    rw [BitVec.ofNat_add, BitVec.ofNat_mul]
  have ht : ∀ k : ℕ, k < 2 ^ 31 → (BitVec.ofNat 32 k).toInt = k := fun k hk => by
    rw [BitVec.toInt_eq_toNat_of_lt] <;> rw [BitVec.toNat_ofNat, Nat.mod_eq_of_lt (by omega)]
    omega
  rw [hw]
  generalize a * b + y = r at h
  have hs : (BitVec.ofNat 32 n).sle (BitVec.ofNat 32 r) = decide (n ≤ r) := by
    rw [BitVec.sle_eq_decide, ht _ h, ht _ hn]
    exact decide_eq_decide.mpr Int.ofNat_le
  by_cases hlt : r < n
  · rw [if_pos hlt]
    simp [IntOp.cmpi, Scalar.select, hs, decide_eq_false (not_le.mpr hlt)]
  · rw [if_neg hlt]
    simp [IntOp.cmpi, Scalar.select, hs, not_lt.mp hlt]

end Cert.Linear

end
-- ==== Proof.Linear.FfnDown.lean ====
module

public import proofs.«01_k».proof.Defs
public import proofs.«01_k».proof.Proof.Gen.Kernel3Ideal.Value
public import proofs.«01_k».proof.Proof.Gen.Reference3Ideal.Run
public import proofs.«01_k».proof.Proof.Linear.Gate
public import Idealize.ShloMosaic.Lib.Pipeline.ValueKit

@[expose] public section

set_option maxRecDepth 16384

noncomputable section

namespace Cert.Kernel3Ideal.Linear

open Cert.Kernel3Ideal Cert.Kernel3Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val]
    ∧ win0_3.index t = ![0, 80 + (grid0.coords t 1).val]
    ∧ win0_4.index t = ![(grid0.coords t 0).val, (grid0.coords t 1).val] :=
  (by decide +kernel : ∀ t : Fin grid0.N, _)

/-- The weights' block is the argument's columns at its place, of layer 0. -/
theorem weights (m : (ℓ : Loc nD τ sig) → Buf (Elt Ideal) ℓ) (c : Dev nD) (t : Fin cfg0.N) (k : Fin 11008) (j : Fin 256) :
    (iblk m c 1 t : FVec Ideal S11008x256 .bf16) (ix2 k j) = m ((c : Thread nD τ).loc main_arg1)
      (ix3 0 k ⟨(grid0.coords t 1).val * 256 + j.val, by have : (grid0.coords t 1).val < 16 := (grid0.coords t 1).isLt; omega⟩) := by
  have h : ∀ j' : Fin 4096, V m c main_v2 (ix2 k j') = m ((c : Thread nD τ).loc main_arg1) (ix3 0 k j') := fun j' => by
    entry_read
    pointwise
  rw [← h]
  blk_ext [iblk, idx t]

set_option maxHeartbeats 1600000 in
/-- The feed-forward part's second projection with its gate and residual, entry by entry. -/
theorem value : algebraic_Kernel3Ideal_Reference3Ideal := fun m g m' g' _ hargs => by
  refine ⟨fun c => (dats m 0 c).arrAt 4 cfg0.N, Value.run_blocks m g,
    (θ_run _ _ _).mono (fun r h c => ⟨?_, (h c).2⟩) (Reference3Ideal.Value.run m' g')⟩
  rw [(h c).1, (hargs c).1, (hargs c).2.1, (hargs c).2.2.1, (hargs c).2.2.2]
  clear h
  symm
  refine (dats m 0 c).arrAt_eq_of_covers 4 _ (by decide +kernel) fun t hf y => ?_
  blk_simp
  rw [after0_4]; frame_out
  pointwise [k0_pay1]
  have ht : (grid0.coords t 0).val < 26 := (grid0.coords t 0).isLt
  have hy : (y 0).val < 640 := (y 0).isLt
  have hrow : ((((cfg0.win 4).blk t).view.emb y 0 : Fin _) : ℕ) = (grid0.coords t 0).val * 640 + (y 0).val := by
    blk_simp [idx t]
  rw [Cert.Linear.select_row _ _ _ _ _ _ (by omega) (by omega)]
  by_cases hlt : (grid0.coords t 0).val * 640 + (y 0).val < 16384
  · rw [if_pos hlt, dif_pos (hrow.trans_lt hlt)]
    reads_congr
    all_goals first | (refine (weights m c t _ _).trans ?_; blk_ext [idx t]) | blk_ext! [iblk, V, idx t]
  · rw [if_neg hlt, dif_neg (fun h => hlt (hrow.symm.trans_lt h))]
    reads_congr
    all_goals first | (refine (weights m c t _ _).trans ?_; blk_ext [idx t]) | blk_ext! [iblk, V, idx t]

/-- The reference's frame: its run keeps the arguments, and it declares no semaphores. -/
theorem reference_frame : quiescent_Reference3Ideal := fun m g _ =>
  (θ_run _ _ _).mono (fun r h => ⟨fun c => (h c).2, sem_eq_zero_of_no_sems (by decide) r.2⟩) (Reference3Ideal.Value.run m g)

end Cert.Kernel3Ideal.Linear

end
-- ==== Proof.Linear.SsdInZ.lean ====
module

public import proofs.«01_k».proof.Defs
public import proofs.«01_k».proof.Proof.Gen.Kernel4Ideal.Value
public import proofs.«01_k».proof.Proof.Gen.Reference4Ideal.Run
public import Idealize.ShloMosaic.Lib.Pipeline.ValueKit

@[expose] public section

set_option maxRecDepth 65536

noncomputable section

namespace Cert.Kernel4Ideal.Linear

open Cert.Kernel4Ideal Cert.Kernel4Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0]
    ∧ win0_1.index t = ![0, 0, (grid0.coords t 1).val]
    ∧ win0_2.index t = ![(grid0.coords t 0).val, (grid0.coords t 1).val] :=
  (by decide +kernel : ∀ t : Fin grid0.N, _)

/-- The weights' block is the array's columns at its place: no block the grid reaches is cut. -/
theorem weights (m : (ℓ : Loc nD τ sig) → Buf (Elt Ideal) ℓ) (c : Dev nD) (t : Fin cfg0.N) (k : Fin 4096) (j : Fin 512) :
    (X0_1 m c t : FVec Ideal S1x4096x512 .f32) (ix3 0 k j) = m ((c : Thread nD τ).loc main_arg1)
      (ix3 0 k ⟨(grid0.coords t 1).val * 512 + j.val, by have : (grid0.coords t 1).val < 16 := (grid0.coords t 1).isLt; omega⟩) := by
  unfold X0_1 Pipeline.Window.fill
  rw [dif_pos (moved0_1 t _)]
  blk_ext [iblk, V, idx t]

/-- What the body stores: the product of its blocks. -/
theorem stored (x0 : FVec Ideal S1280x4096 .bf16) (x1 : FVec Ideal S1x4096x512 .f32) (y : S1280x512.Idx) :
    k0_pay1 x0 x1 y = ∑ k : Fin 4096, x0 (ix2 (y 0) k) * x1 (ix3 0 k (y 1)) := by
  pointwise [k0_pay1]

/-- The reference's product. -/
theorem product (x : FVec Ideal S16640x4096 .bf16) (w : FVec Ideal S1x4096x18688 .f32) (r : Fin 16640) (j : Fin 18688) :
    Host.dotGeneral Reference4Ideal.dot_S16640x4096_S4096x18688_S16640x18688_1_0_0_1_n_n none
      (extf .f32 x Reference4Ideal.Gen.bitsLt_bf16_f32) (shapeCast Reference4Ideal.S4096x18688 w Reference4Ideal.Gen.shapeCasts_S1x4096x18688_S4096x18688)
      (ix2 r j) = ∑ k : Fin 4096, x (ix2 r k) * w (ix3 0 k j) := by
  pointwise

/-- Its columns of this call. -/
theorem columns (x : FVec Ideal Reference4Ideal.S16640x18688 .f32) (y : Reference4Ideal.S16640x8192.Idx) :
    truncf .bf16 (extractStridedSlice Reference4Ideal.S16640x8192 ![0, 0] x Reference4Ideal.Gen.slices_S16640x18688_S16640x8192_0_0)
      Reference4Ideal.Gen.bitsLt_bf16_f32 y = x (ix2 (y 0) ⟨(y 1).val, by have : (y 1).val < 8192 := (y 1).isLt; omega⟩) := by
  pointwise

/-- The recurrence's gate, entry by entry. -/
theorem value : algebraic_Kernel4Ideal_Reference4Ideal := fun m g m' g' _ hargs => by
  refine ⟨fun c => (dats m 0 c).arrAt 2 cfg0.N, Value.run_blocks m g,
    (θ_run _ _ _).mono (fun r h c => ⟨?_, (h c).2⟩) (Reference4Ideal.Value.run m' g')⟩
  rw [(h c).1, (hargs c).1, (hargs c).2]
  clear h
  symm
  refine (dats m 0 c).arrAt_eq_of_covers 2 _ (by decide +kernel) fun t hf y => ?_
  blk_simp
  rw [after0_2]; unfold outsAt0; frame_out
  refine (stored _ _ y).trans (Eq.trans ?_ (columns _ _).symm)
  refine Eq.trans ?_ (product _ _ _ _).symm
  refine Finset.sum_congr rfl fun k _ => ?_
  reads_congr
  · blk_ext! [iblk, V, idx t]
  · refine (weights m c t k _).trans ?_
    blk_ext [idx t]

/-- The reference's frame: its run keeps the arguments, and it declares no semaphores. -/
theorem reference_frame : quiescent_Reference4Ideal := fun m g _ =>
  (θ_run _ _ _).mono (fun r h => ⟨fun c => (h c).2, sem_eq_zero_of_no_sems (by decide) r.2⟩) (Reference4Ideal.Value.run m g)

end Cert.Kernel4Ideal.Linear

end
-- ==== Proof.Linear.SsdInXbc.lean ====
module

public import proofs.«01_k».proof.Defs
public import proofs.«01_k».proof.Proof.Gen.Kernel5Ideal.Value
public import proofs.«01_k».proof.Proof.Gen.Reference5Ideal.Run
public import proofs.«01_k».proof.Proof.Linear.SsdInZ
public import Idealize.ShloMosaic.Lib.Pipeline.ValueKit

@[expose] public section

set_option maxRecDepth 65536

noncomputable section

namespace Cert.Kernel5Ideal.Linear

open Cert.Kernel5Ideal Cert.Kernel5Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0]
    ∧ win0_1.index t = ![0, 0, 16 + (grid0.coords t 1).val]
    ∧ win0_2.index t = ![(grid0.coords t 0).val, (grid0.coords t 1).val] :=
  (by decide +kernel : ∀ t : Fin grid0.N, _)

/-- The weights' block is the array's columns at its place: no block the grid reaches is cut. -/
theorem weights (m : (ℓ : Loc nD τ sig) → Buf (Elt Ideal) ℓ) (c : Dev nD) (t : Fin cfg0.N) (k : Fin 4096) (j : Fin 512) :
    (X0_1 m c t : FVec Ideal S1x4096x512 .f32) (ix3 0 k j) = m ((c : Thread nD τ).loc main_arg1)
      (ix3 0 k ⟨(16 + (grid0.coords t 1).val) * 512 + j.val, by have : (grid0.coords t 1).val < 20 := (grid0.coords t 1).isLt; omega⟩) := by
  unfold X0_1 Pipeline.Window.fill
  rw [dif_pos (moved0_1 t _)]
  blk_ext [iblk, V, idx t]

/-- What the body stores: the product of its blocks. -/
theorem stored (x0 : FVec Ideal S1280x4096 .bf16) (x1 : FVec Ideal S1x4096x512 .f32) (y : S1280x512.Idx) :
    (k0_pay1 (F := Ideal) x0 x1 y : EReal) = ∑ k : Fin 4096, (x0 (ix2 (y 0) k) : EReal) * (x1 (ix3 0 k (y 1)) : EReal) := by
  pointwise [k0_pay1]

/-- The product's columns of this call. -/
theorem columns (x : FVec Ideal Reference5Ideal.S16640x18688 .f32) (y : Reference5Ideal.S16640x10240.Idx) :
    extractStridedSlice Reference5Ideal.S16640x10240 ![0, 8192] x Reference5Ideal.Gen.slices_S16640x18688_S16640x10240_0_8192 y
      = x (ix2 (y 0) ⟨8192 + (y 1).val, by have : (y 1).val < 10240 := (y 1).isLt; omega⟩) := by
  pointwise

/-- The recurrence's convolved channels, entry by entry. -/
theorem value : algebraic_Kernel5Ideal_Reference5Ideal := fun m g m' g' _ hargs => by
  refine ⟨fun c => (dats m 0 c).arrAt 2 cfg0.N, Value.run_blocks m g,
    (θ_run _ _ _).mono (fun r h c => ⟨?_, (h c).2⟩) (Reference5Ideal.Value.run m' g')⟩
  rw [(h c).1, (hargs c).1, (hargs c).2]
  clear h
  symm
  refine (dats m 0 c).arrAt_eq_of_covers 2 _ (by decide +kernel) fun t hf y => ?_
  blk_simp
  rw [after0_2]; unfold outsAt0; frame_out
  refine (stored _ _ y).trans (Eq.trans ?_ (columns _ _).symm)
  refine Eq.trans ?_ (Kernel4Ideal.Linear.product _ _ _ _).symm
  refine Finset.sum_congr rfl fun k _ => ?_
  reads_congr
  · blk_ext! [iblk, V, idx t]
  · refine (weights m c t k _).trans ?_
    blk_ext [idx t]

/-- The reference's frame: its run keeps the arguments, and it declares no semaphores. -/
theorem reference_frame : quiescent_Reference5Ideal := fun m g _ =>
  (θ_run _ _ _).mono (fun r h => ⟨fun c => (h c).2, sem_eq_zero_of_no_sems (by decide) r.2⟩) (Reference5Ideal.Value.run m g)

end Cert.Kernel5Ideal.Linear

end
-- ==== Proof.Linear.SsdInDt.lean ====
module

public import proofs.«01_k».proof.Defs
public import proofs.«01_k».proof.Proof.Gen.Kernel6Ideal.Value
public import proofs.«01_k».proof.Proof.Gen.Reference6Ideal.Run
public import proofs.«01_k».proof.Proof.Linear.SsdInZ
public import Idealize.ShloMosaic.Lib.Pipeline.ValueKit

@[expose] public section

set_option maxRecDepth 65536

noncomputable section

namespace Cert.Kernel6Ideal.Linear

open Cert.Kernel6Ideal Cert.Kernel6Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0]
    ∧ win0_1.index t = ![0, 0, 72 + (grid0.coords t 1).val]
    ∧ win0_2.index t = ![(grid0.coords t 0).val, (grid0.coords t 1).val] :=
  (by decide +kernel : ∀ t : Fin grid0.N, _)

/-- What the body stores: the product of its blocks. -/
theorem stored (x0 : FVec Ideal S1280x4096 .bf16) (x1 : FVec Ideal S1x4096x256 .f32) (y : S1280x256.Idx) :
    (k0_pay1 (F := Ideal) x0 x1 y : EReal) = ∑ k : Fin 4096, (x0 (ix2 (y 0) k) : EReal) * (x1 (ix3 0 k (y 1)) : EReal) := by
  pointwise [k0_pay1]

/-- The product's columns of this call. -/
theorem columns (x : FVec Ideal Reference6Ideal.S16640x18688 .f32) (y : Reference6Ideal.S16640x256.Idx) :
    extractStridedSlice Reference6Ideal.S16640x256 ![0, 18432] x Reference6Ideal.Gen.slices_S16640x18688_S16640x256_0_18432 y
      = x (ix2 (y 0) ⟨18432 + (y 1).val, by have : (y 1).val < 256 := (y 1).isLt; omega⟩) := by
  pointwise

/-- The recurrence's steps, entry by entry. -/
theorem value : algebraic_Kernel6Ideal_Reference6Ideal := fun m g m' g' _ hargs => by
  refine ⟨fun c => (dats m 0 c).arrAt 2 cfg0.N, Value.run_blocks m g,
    (θ_run _ _ _).mono (fun r h c => ⟨?_, (h c).2⟩) (Reference6Ideal.Value.run m' g')⟩
  rw [(h c).1, (hargs c).1, (hargs c).2]
  clear h
  symm
  refine (dats m 0 c).arrAt_eq_of_covers 2 _ (by decide +kernel) fun t hf y => ?_
  blk_simp
  rw [after0_2]; frame_out
  refine (stored _ _ y).trans (Eq.trans ?_ (columns _ _).symm)
  refine Eq.trans ?_ (Kernel4Ideal.Linear.product _ _ _ _).symm
  refine Finset.sum_congr rfl fun k _ => ?_
  blk_point [iblk, V, idx t]

/-- The reference's frame: its run keeps the arguments, and it declares no semaphores. -/
theorem reference_frame : quiescent_Reference6Ideal := fun m g _ =>
  (θ_run _ _ _).mono (fun r h => ⟨fun c => (h c).2, sem_eq_zero_of_no_sems (by decide) r.2⟩) (Reference6Ideal.Value.run m g)

end Cert.Kernel6Ideal.Linear

end
-- ==== Proof.Linear.SsdOut.lean ====
module

public import proofs.«01_k».proof.Defs
public import proofs.«01_k».proof.Proof.Gen.Kernel7Ideal.Value
public import proofs.«01_k».proof.Proof.Gen.Reference7Ideal.Run
public import proofs.«01_k».proof.Proof.Linear.Gate
public import Idealize.ShloMosaic.Lib.Pipeline.ValueKit

@[expose] public section

set_option maxRecDepth 16384

noncomputable section

namespace Cert.Kernel7Ideal.Linear

open Cert.Kernel7Ideal Cert.Kernel7Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0] ∧ win0_1.index t = ![0, (grid0.coords t 1).val]
    ∧ win0_2.index t = ![(grid0.coords t 0).val, (grid0.coords t 1).val]
    ∧ win0_3.index t = ![0, 32 + (grid0.coords t 1).val]
    ∧ win0_4.index t = ![(grid0.coords t 0).val, (grid0.coords t 1).val] :=
  (by decide +kernel : ∀ t : Fin grid0.N, _)

/-- The stream's block is the array's entries at its place: no block the grid reaches is cut. -/
theorem stream (m : (ℓ : Loc nD τ sig) → Buf (Elt Ideal) ℓ) (c : Dev nD) (t : Fin cfg0.N) (y : S1024x256.Idx) :
    (X0_2 m c t : FVec Ideal S1024x256 .f32) y = m ((c : Thread nD τ).loc main_arg2)
      (ix2 ⟨(grid0.coords t 0).val * 1024 + (y 0).val, by have : (grid0.coords t 0).val < 16 := (grid0.coords t 0).isLt; have : (y 0).val < 1024 := (y 0).isLt; omega⟩
        ⟨(grid0.coords t 1).val * 256 + (y 1).val, by have : (grid0.coords t 1).val < 16 := (grid0.coords t 1).isLt; have : (y 1).val < 256 := (y 1).isLt; omega⟩) := by
  unfold X0_2 Pipeline.Window.fill
  rw [dif_pos (moved0_2 t _)]
  blk_ext [iblk, V, idx t]

/-- The weights' block is the argument's columns at its place. -/
theorem weights (m : (ℓ : Loc nD τ sig) → Buf (Elt Ideal) ℓ) (c : Dev nD) (t : Fin cfg0.N) (k : Fin 8192) (j : Fin 256) :
    (iblk m c 1 t : FVec Ideal S8192x256 .bf16) (ix2 k j) = m ((c : Thread nD τ).loc main_arg1)
      (ix2 k ⟨(grid0.coords t 1).val * 256 + j.val, by have : (grid0.coords t 1).val < 16 := (grid0.coords t 1).isLt; omega⟩) := by
  have h : ∀ j' : Fin 4096, V m c main_v0 (ix2 k j') = m ((c : Thread nD τ).loc main_arg1) (ix2 k j') := fun j' => by
    entry_read
    pointwise
  rw [← h]
  blk_ext [iblk, idx t]

set_option maxHeartbeats 1600000 in
/-- The recurrence's output projection with its gate and residual, entry by entry. -/
theorem value : algebraic_Kernel7Ideal_Reference7Ideal := fun m g m' g' _ hargs => by
  refine ⟨fun c => (dats m 0 c).arrAt 4 cfg0.N, Value.run_blocks m g,
    (θ_run _ _ _).mono (fun r h c => ⟨?_, (h c).2⟩) (Reference7Ideal.Value.run m' g')⟩
  rw [(h c).1, (hargs c).1, (hargs c).2.1, (hargs c).2.2.1, (hargs c).2.2.2]
  clear h
  symm
  refine (dats m 0 c).arrAt_eq_of_covers 4 _ (by decide +kernel) fun t hf y => ?_
  blk_simp
  rw [after0_4]; unfold outsAt0; frame_out
  pointwise [k0_pay1]
  have ht : (grid0.coords t 0).val < 16 := (grid0.coords t 0).isLt
  have hy : (y 0).val < 1024 := (y 0).isLt
  rw [Cert.Linear.select_row _ _ _ _ _ _ (by omega) (by omega), if_pos (by omega)]
  reads_congr
  · refine (stream m c t y).trans ?_
    blk_ext [idx t]
  · blk_ext! [iblk, V, idx t]
  · blk_ext! [iblk, V, idx t]
  · refine (weights m c t _ _).trans ?_
    blk_ext [idx t]

/-- The reference's frame: its run keeps the arguments, and it declares no semaphores. -/
theorem reference_frame : quiescent_Reference7Ideal := fun m g _ =>
  (θ_run _ _ _).mono (fun r h => ⟨fun c => (h c).2, sem_eq_zero_of_no_sems (by decide) r.2⟩) (Reference7Ideal.Value.run m g)

end Cert.Kernel7Ideal.Linear

end
-- ==== Proof.Linear.AttnIn.lean ====
module

public import proofs.«01_k».proof.Defs
public import proofs.«01_k».proof.Proof.Gen.Kernel8Ideal.Value
public import proofs.«01_k».proof.Proof.Gen.Reference8Ideal.Run
public import Idealize.ShloMosaic.Lib.Pipeline.ValueKit

@[expose] public section

set_option maxRecDepth 16384

noncomputable section

namespace Cert.Kernel8Ideal.Linear

open Cert.Kernel8Ideal Cert.Kernel8Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- The attention layer's input projection, entry by entry. -/
theorem value : algebraic_Kernel8Ideal_Reference8Ideal := fun m g m' g' _ hargs => by
  refine ⟨fun c => (dats m 0 c).arrAt 2 cfg0.N, Value.run_blocks m g,
    (θ_run _ _ _).mono (fun r h c => ⟨?_, (h c).2⟩) (Reference8Ideal.Value.run m' g')⟩
  rw [(h c).1, (hargs c).1, (hargs c).2]
  clear h
  symm
  refine (dats m 0 c).arrAt_eq_of_covers 2 _ (by decide +kernel) fun t hf y => ?_
  blk_simp
  rw [after0_2]; frame_out
  pointwise [k0_pay1]
  blk_point [iblk, V, idx t]

/-- The reference's frame: its run keeps the arguments, and it declares no semaphores. -/
theorem reference_frame : quiescent_Reference8Ideal := fun m g _ =>
  (θ_run _ _ _).mono (fun r h => ⟨fun c => (h c).2, sem_eq_zero_of_no_sems (by decide) r.2⟩) (Reference8Ideal.Value.run m g)

end Cert.Kernel8Ideal.Linear

end
-- ==== Proof.Linear.AttnOut.lean ====
module

public import proofs.«01_k».proof.Defs
public import proofs.«01_k».proof.Proof.Gen.Kernel9Ideal.Value
public import proofs.«01_k».proof.Proof.Gen.Reference9Ideal.Run
public import proofs.«01_k».proof.Proof.Linear.Gate
public import Idealize.ShloMosaic.Lib.Pipeline.ValueKit

@[expose] public section

set_option maxRecDepth 16384

noncomputable section

namespace Cert.Kernel9Ideal.Linear

open Cert.Kernel9Ideal Cert.Kernel9Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0] ∧ win0_1.index t = ![(grid0.coords t 0).val, 0]
    ∧ win0_2.index t = ![0, (grid0.coords t 1).val] ∧ win0_3.index t = ![0, (grid0.coords t 1).val]
    ∧ win0_4.index t = ![(grid0.coords t 0).val, (grid0.coords t 1).val]
    ∧ win0_5.index t = ![0, 16 + (grid0.coords t 1).val]
    ∧ win0_6.index t = ![(grid0.coords t 0).val, (grid0.coords t 1).val] :=
  (by decide +kernel : ∀ t : Fin grid0.N, _)

/-- The first factor's weights: the argument's upper half, at the block's columns. -/
theorem weights (m : (ℓ : Loc nD τ sig) → Buf (Elt Ideal) ℓ) (c : Dev nD) (t : Fin cfg0.N) (k : Fin 2048) (j : Fin 512) :
    (iblk m c 2 t : FVec Ideal S2048x512 .bf16) (ix2 k j) = m ((c : Thread nD τ).loc main_arg2)
      (ix2 ⟨k.val, by omega⟩ ⟨(grid0.coords t 1).val * 512 + j.val, by have : (grid0.coords t 1).val < 8 := (grid0.coords t 1).isLt; omega⟩) := by
  have h : ∀ j' : Fin 4096, V m c main_v1 (ix2 k j') = m ((c : Thread nD τ).loc main_arg2) (ix2 ⟨k.val, by omega⟩ j') := fun j' => by
    entry_read
    pointwise
  rw [← h]
  blk_ext [iblk, idx t]

/-- The second factor's weights: the argument's lower half. -/
theorem weights' (m : (ℓ : Loc nD τ sig) → Buf (Elt Ideal) ℓ) (c : Dev nD) (t : Fin cfg0.N) (k : Fin 2048) (j : Fin 512) :
    (iblk m c 3 t : FVec Ideal S2048x512 .bf16) (ix2 k j) = m ((c : Thread nD τ).loc main_arg2)
      (ix2 ⟨2048 + k.val, by omega⟩ ⟨(grid0.coords t 1).val * 512 + j.val, by have : (grid0.coords t 1).val < 8 := (grid0.coords t 1).isLt; omega⟩) := by
  have h : ∀ j' : Fin 4096, V m c main_v3 (ix2 k j') = m ((c : Thread nD τ).loc main_arg2) (ix2 ⟨2048 + k.val, by omega⟩ j') := fun j' => by
    entry_read
    pointwise
  rw [← h]
  blk_ext [iblk, idx t]

set_option maxHeartbeats 1600000 in
/-- The attention layer's output projection with its gate and residual, entry by entry. -/
theorem value : algebraic_Kernel9Ideal_Reference9Ideal := fun m g m' g' _ hargs => by
  refine ⟨fun c => (dats m 0 c).arrAt 6 cfg0.N, Value.run_blocks m g,
    (θ_run _ _ _).mono (fun r h c => ⟨?_, (h c).2⟩) (Reference9Ideal.Value.run m' g')⟩
  rw [(h c).1, (hargs c).1, (hargs c).2.1, (hargs c).2.2.1, (hargs c).2.2.2.1, (hargs c).2.2.2.2]
  clear h
  symm
  refine (dats m 0 c).arrAt_eq_of_covers 6 _ (by decide +kernel) fun t hf y => ?_
  blk_simp
  rw [after0_6]; frame_out
  pointwise [k0_pay1]
  have ht : (grid0.coords t 0).val < 13 := (grid0.coords t 0).isLt
  have hy : (y 0).val < 1280 := (y 0).isLt
  have hrow : ((((cfg0.win 6).blk t).view.emb y 0 : Fin _) : ℕ) = (grid0.coords t 0).val * 1280 + (y 0).val := by
    blk_simp [idx t]
  rw [Cert.Linear.select_row _ _ _ _ _ _ (by omega) (by omega)]
  by_cases hlt : (grid0.coords t 0).val * 1280 + (y 0).val < 16384
  · rw [if_pos hlt, dif_pos (hrow.trans_lt hlt)]
    reads_congr
    all_goals first
      | (refine (weights m c t _ _).trans ?_; blk_ext [idx t])
      | (refine (weights' m c t _ _).trans ?_; blk_ext [idx t])
      | blk_ext! [iblk, V, idx t]
  · rw [if_neg hlt, dif_neg (fun h => hlt (hrow.symm.trans_lt h))]
    reads_congr
    all_goals first
      | (refine (weights m c t _ _).trans ?_; blk_ext [idx t])
      | (refine (weights' m c t _ _).trans ?_; blk_ext [idx t])
      | blk_ext! [iblk, V, idx t]

/-- The reference's frame: its run keeps the arguments, and it declares no semaphores. -/
theorem reference_frame : quiescent_Reference9Ideal := fun m g _ =>
  (θ_run _ _ _).mono (fun r h => ⟨fun c => (h c).2, sem_eq_zero_of_no_sems (by decide) r.2⟩) (Reference9Ideal.Value.run m g)

end Cert.Kernel9Ideal.Linear

end
-- ==== Proof.Norm.Final.lean ====
module

public import proofs.«01_k».proof.Defs
public import proofs.«01_k».proof.Proof.Gen.Kernel10Ideal.Value
public import proofs.«01_k».proof.Proof.Gen.Reference10Ideal.Run
public import Idealize.ShloMosaic.Lib.Pipeline.ValueKit

@[expose] public section

set_option maxRecDepth 16384

noncomputable section

namespace Cert.Kernel10Ideal.Norm

open Cert.Kernel10Ideal Cert.Kernel10Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0] ∧ win0_1.index t = ![0, 0] ∧ win0_2.index t = ![(grid0.coords t 0).val, 0] :=
  (by decide +kernel : ∀ t : Fin grid0.N, _)

/-- The gains' block is the argument. -/
theorem gain (m : (ℓ : Loc nD τ sig) → Buf (Elt Ideal) ℓ) (c : Dev nD) (t : Fin cfg0.N) (j : Fin 4096) :
    (iblk m c 1 t : FVec Ideal S1x4096 .f32) (ix2 0 j) = m ((c : Thread nD τ).loc main_arg1) (ix1 j) := by
  have h : ∀ j' : Fin 4096, V m c main_v0 (ix2 0 j') = m ((c : Thread nD τ).loc main_arg1) (ix1 j') := fun j' => by
    entry_read
    pointwise
  rw [← h]
  blk_ext [iblk, idx t]

/-- The last norm, entry by entry. -/
theorem value : algebraic_Kernel10Ideal_Reference10Ideal := fun m g m' g' _ hargs => by
  refine ⟨fun c => (dats m 0 c).arrAt 2 cfg0.N, Value.run_blocks m g,
    (θ_run _ _ _).mono (fun r h c => ⟨?_, (h c).2⟩) (Reference10Ideal.Value.run m' g')⟩
  rw [(h c).1, (hargs c).1, (hargs c).2]
  clear h
  symm
  refine (dats m 0 c).arrAt_eq_of_covers 2 _ (by decide +kernel) fun t hf y => ?_
  blk_simp
  rw [after0_2]; frame_out
  pointwise [k0_pay1]
  reads_congr
  all_goals first | (refine (gain m c t _).trans ?_; blk_ext [idx t]) | blk_ext! [iblk, V, idx t]

/-- The reference's frame: its run keeps the arguments, and it declares no semaphores. -/
theorem reference_frame : quiescent_Reference10Ideal := fun m g _ =>
  (θ_run _ _ _).mono (fun r h => ⟨fun c => (h c).2, sem_eq_zero_of_no_sems (by decide) r.2⟩) (Reference10Ideal.Value.run m g)

end Cert.Kernel10Ideal.Norm

end
-- ==== Proof.Norm.Mod.lean ====
module

public import proofs.«01_k».proof.Defs
public import proofs.«01_k».proof.Proof.Gen.Kernel11Ideal.Value
public import proofs.«01_k».proof.Proof.Gen.Reference11Ideal.Run
public import proofs.«01_k».proof.Proof.Linear.Gate
public import Idealize.ShloMosaic.Lib.Pipeline.ValueKit

@[expose] public section

set_option maxRecDepth 32768

noncomputable section

namespace Cert.Kernel11Ideal.Norm

open Cert.Kernel11Ideal Cert.Kernel11Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![(grid0.coords t 0).val, 0] ∧ win0_1.index t = ![0, 0] ∧ win0_2.index t = ![0, 0] ∧ win0_3.index t = ![0, 1] ∧ win0_4.index t = ![(grid0.coords t 0).val, 0] :=
  (by decide +kernel : ∀ t : Fin grid0.N, _)

/-- The gains' block is the argument. -/
theorem gain (m : (ℓ : Loc nD τ sig) → Buf (Elt Ideal) ℓ) (c : Dev nD) (t : Fin cfg0.N) (j : Fin 4096) :
    (iblk m c 1 t : FVec Ideal S1x4096 .f32) (ix2 0 j) = m ((c : Thread nD τ).loc main_arg1) (ix1 j) := by
  have h : ∀ j' : Fin 4096, V m c main_v0 (ix2 0 j') = m ((c : Thread nD τ).loc main_arg1) (ix1 j') := fun j' => by
    entry_read
    pointwise
  rw [← h]
  blk_ext [iblk, idx t]

set_option maxHeartbeats 3200000 in
/-- The norm with its shift and scale, entry by entry. -/
theorem value : algebraic_Kernel11Ideal_Reference11Ideal := fun m g m' g' _ hargs => by
  refine ⟨fun c => (dats m 0 c).arrAt 4 cfg0.N, Value.run_blocks m g,
    (θ_run _ _ _).mono (fun r h c => ⟨?_, (h c).2⟩) (Reference11Ideal.Value.run m' g')⟩
  rw [(h c).1, (hargs c).1, (hargs c).2.1, (hargs c).2.2]
  clear h
  symm
  refine (dats m 0 c).arrAt_eq_of_covers 4 _ (by decide +kernel) fun t hf y => ?_
  blk_simp
  rw [after0_4]; frame_out
  pointwise [k0_pay1, k0_pay2, k0_pay3, k0_pay4, k0_pay5]
  have ht : (grid0.coords t 0).val < 52 := (grid0.coords t 0).isLt
  have hy : (y 0).val < 320 := (y 0).isLt
  have hrow : ((((cfg0.win 4).blk t).view.emb y 0 : Fin _) : ℕ) = (grid0.coords t 0).val * 320 + (y 0).val := by
    blk_simp [idx t]
  rw [Cert.Linear.select_row _ _ _ _ _ _ (by omega) (by omega), Cert.Linear.select_row _ _ _ _ _ _ (by omega) (by omega)]
  by_cases hlt : (grid0.coords t 0).val * 320 + (y 0).val < 16384
  · rw [if_pos hlt, if_pos hlt, dif_pos (hrow.trans_lt hlt)]
    reads_congr
    all_goals first | (refine (gain m c t _).trans ?_; blk_ext [idx t]) | blk_ext! [iblk, V, idx t]
  · rw [if_neg hlt, if_neg hlt, dif_neg (fun h => hlt (hrow.symm.trans_lt h))]
    reads_congr
    all_goals first | (refine (gain m c t _).trans ?_; blk_ext [idx t]) | blk_ext! [iblk, V, idx t]

/-- The reference's frame: its run keeps the arguments, and it declares no semaphores. -/
theorem reference_frame : quiescent_Reference11Ideal := fun m g _ =>
  (θ_run _ _ _).mono (fun r h => ⟨fun c => (h c).2, sem_eq_zero_of_no_sems (by decide) r.2⟩) (Reference11Ideal.Value.run m g)

end Cert.Kernel11Ideal.Norm

end
-- ==== Proof.Norm.GateNorm.lean ====
module

public import proofs.«01_k».proof.Defs
public import proofs.«01_k».proof.Proof.Gen.Kernel12Ideal.Value
public import proofs.«01_k».proof.Proof.Gen.Reference12Ideal.Run
public import Idealize.ShloMosaic.Lib.Pipeline.ValueKit

@[expose] public section

set_option maxRecDepth 32768

noncomputable section

namespace Cert.Kernel12Ideal.Norm

open Cert.Kernel12Ideal Cert.Kernel12Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![0, (grid0.coords t 0).val, 0] ∧ win0_1.index t = ![1, (grid0.coords t 0).val, 0] ∧ win0_2.index t = ![(grid0.coords t 0).val, 0] ∧ win0_3.index t = ![(grid0.coords t 0).val, 0] ∧ win0_4.index t = ![0, 0] ∧ win0_5.index t = ![0, 0] ∧ win0_6.index t = ![(grid0.coords t 0).val, 0] :=
  (by decide +kernel : ∀ t : Fin grid0.N, _)

/-- The gains' block is the argument. -/
theorem gain (m : (ℓ : Loc nD τ sig) → Buf (Elt Ideal) ℓ) (c : Dev nD) (t : Fin cfg0.N) (j : Fin 8192) :
    (iblk m c 5 t : FVec Ideal S1x8192 .f32) (ix2 0 j) = m ((c : Thread nD τ).loc main_arg4) (ix1 j) := by
  have h : ∀ j' : Fin 8192, V m c main_v3 (ix2 0 j') = m ((c : Thread nD τ).loc main_arg4) (ix1 j') := fun j' => by
    entry_read
    pointwise
  rw [← h]
  blk_ext [iblk, idx t]

/-- The skip's block holds each head's factor once per channel. -/
theorem skip (m : (ℓ : Loc nD τ sig) → Buf (Elt Ideal) ℓ) (c : Dev nD) (t : Fin cfg0.N) (j : Fin 8192) :
    (iblk m c 4 t : FVec Ideal S1x8192 .f32) (ix2 0 j) = m ((c : Thread nD τ).loc main_arg3) (ix1 ⟨j.val / 64, by omega⟩) := by
  have h : ∀ j' : Fin 8192, V m c main_v2 (ix2 0 j') = m ((c : Thread nD τ).loc main_arg3) (ix1 ⟨j'.val / 64, by omega⟩) := fun j' => by
    entry_read
    pointwise
  rw [← h]
  blk_ext [iblk, idx t]

/-- The channels' block is the array's entries at its place: the one block of columns is not cut. -/
theorem channels (m : (ℓ : Loc nD τ sig) → Buf (Elt Ideal) ℓ) (c : Dev nD) (t : Fin cfg0.N) (y : S128x8192.Idx) :
    (X0_2 m c t : FVec Ideal S128x8192 .bf16) y = m ((c : Thread nD τ).loc main_arg1)
      (ix2 ⟨(grid0.coords t 0).val * 128 + (y 0).val, by have : (grid0.coords t 0).val < 128 := (grid0.coords t 0).isLt; have : (y 0).val < 128 := (y 0).isLt; omega⟩
        ⟨(y 1).val, by have : (y 1).val < 8192 := (y 1).isLt; omega⟩) := by
  unfold X0_2 Pipeline.Window.fill
  rw [dif_pos (moved0_2 t _)]
  blk_ext [iblk, V, idx t]

set_option maxHeartbeats 3200000 in
/-- The gated norm of the two directions and the skip, entry by entry. -/
theorem value : algebraic_Kernel12Ideal_Reference12Ideal := fun m g m' g' _ hargs => by
  refine ⟨fun c => (dats m 0 c).arrAt 6 cfg0.N, Value.run_blocks m g,
    (θ_run _ _ _).mono (fun r h c => ⟨?_, (h c).2⟩) (Reference12Ideal.Value.run m' g')⟩
  rw [(h c).1, Reference12Ideal.Value.res_main_v34, (hargs c).1, (hargs c).2.1, (hargs c).2.2.1, (hargs c).2.2.2.1, (hargs c).2.2.2.2]
  clear h
  symm
  refine (dats m 0 c).arrAt_eq_of_covers 6 _ (by decide +kernel) fun t hf y => ?_
  blk_simp
  rw [after0_6]; unfold outsAt0; frame_out
  pointwise [k0_pay1]
  simp only [Ideal.logistic]
  reads_congr
  all_goals first
    | (refine (gain m c t _).trans ?_; blk_ext [idx t])
    | (refine (skip m c t _).trans ?_; blk_ext [idx t])
    | (refine (channels m c t _).trans ?_; blk_ext [idx t])
    | blk_ext! [iblk, V, idx t]

/-- The reference's frame: its run keeps the arguments, and it declares no semaphores. -/
theorem reference_frame : quiescent_Reference12Ideal := fun m g _ =>
  (θ_run _ _ _).mono (fun r h => ⟨fun c => (h c).2, sem_eq_zero_of_no_sems (by decide) r.2⟩) (Reference12Ideal.Value.run m g)

end Cert.Kernel12Ideal.Norm

end
-- ==== Proof.Norm.Adaln.lean ====
module

public import proofs.«01_k».proof.Defs
public import proofs.«01_k».proof.Proof.Gen.Kernel13Ideal.Value
public import proofs.«01_k».proof.Proof.Gen.Reference13Ideal.Run
public import Idealize.ShloMosaic.Lib.Pipeline.ValueKit

@[expose] public section

set_option maxRecDepth 32768

noncomputable section

namespace Cert.Kernel13Ideal.Norm

open Cert.Kernel13Ideal Cert.Kernel13Ideal.Gen Idealize.ShloMosaic Idealize.ShloMosaic.TcCoe Idealize.SL.Sem
open Idealize.ShloMosaic.Pipeline (Dat)

/-- Which block each window is at, point by point. -/
theorem idx : ∀ t : Fin cfg0.N, win0_0.index t = ![0, 0] ∧ win0_1.index t = ![(grid0.coords t 0).val, 0, (grid0.coords t 1).val] ∧ win0_2.index t = ![(grid0.coords t 0).val, 0, (grid0.coords t 1).val] ∧ win0_3.index t = ![(grid0.coords t 0).val, 0, (grid0.coords t 1).val] :=
  (by decide +kernel : ∀ t : Fin grid0.N, _)

/-- The offsets' block is the argument's columns at its place, of its layer. -/
theorem offset (m : (ℓ : Loc nD τ sig) → Buf (Elt Ideal) ℓ) (c : Dev nD) (t : Fin cfg0.N) (j : Fin 512) :
    (iblk m c 2 t : FVec Ideal S1x1x512 .f32) (ix3 0 0 j) = m ((c : Thread nD τ).loc main_arg2)
      (ix2 ⟨(grid0.coords t 0).val, (grid0.coords t 0).isLt⟩ ⟨(grid0.coords t 1).val * 512 + j.val, by have : (grid0.coords t 1).val < 48 := (grid0.coords t 1).isLt; omega⟩) := by
  have h : ∀ (l : Fin 2) (j' : Fin 24576), V m c main_v0 (ix3 l 0 j') = m ((c : Thread nD τ).loc main_arg2) (ix2 l j') := fun l j' => by
    entry_read
    pointwise
  rw [← h]
  blk_ext [iblk, idx t]

/-- The modulation, entry by entry. -/
theorem value : algebraic_Kernel13Ideal_Reference13Ideal := fun m g m' g' _ hargs => by
  refine ⟨fun c => (dats m 0 c).arrAt 3 cfg0.N, Value.run_blocks m g,
    (θ_run _ _ _).mono (fun r h c => ⟨?_, (h c).2⟩) (Reference13Ideal.Value.run m' g')⟩
  rw [(h c).1, (hargs c).1, (hargs c).2.1, (hargs c).2.2]
  clear h
  symm
  refine (dats m 0 c).arrAt_eq_of_covers 3 _ (by decide +kernel) fun t hf y => ?_
  blk_simp
  rw [after0_3]; frame_out
  pointwise [k0_pay1]
  have hrow : ((((cfg0.win 3).blk t).view.emb y 0 : Fin _) : ℕ) = (grid0.coords t 0).val := by
    blk_simp [idx t]
  simp only [Ideal.logistic]
  have ht : (grid0.coords t 0).val < 2 := (grid0.coords t 0).isLt
  by_cases hlt : (grid0.coords t 0).val < 1
  · rw [dif_pos (hrow.trans_lt hlt)]
    reads_congr
    all_goals first | (refine (offset m c t _).trans ?_; blk_ext [idx t]) | blk_ext! [iblk, V, idx t]
  · rw [dif_neg (fun h => hlt (hrow.symm.trans_lt h))]
    reads_congr
    all_goals first | (refine (offset m c t _).trans ?_; blk_ext [idx t]) | blk_ext! [iblk, V, idx t]

/-- The reference's frame: its run keeps the arguments, and it declares no semaphores. -/
theorem reference_frame : quiescent_Reference13Ideal := fun m g _ =>
  (θ_run _ _ _).mono (fun r h => ⟨fun c => (h c).2, sem_eq_zero_of_no_sems (by decide) r.2⟩) (Reference13Ideal.Value.run m g)

end Cert.Kernel13Ideal.Norm

end
-- ==== Proof.Scan.Tile.lean ====
/-
  The scan's chunk: the eight stores of a chunk's output, two heads each, are one formula over all of a group's
  columns, and so are the stores that the next state is made of.
-/
module

public import proofs.«01_k».proof.Defs
public import proofs.«01_k».proof.Proof.Gen.Kernel16Ideal.Value
public import Idealize.ShloMosaic.Lib.Pipeline.ValueKit
public import Idealize.ShloMosaic.Lib.Pipeline.ReadBack

@[expose] public section

set_option maxRecDepth 32768

noncomputable section

namespace Cert.Kernel16Ideal.Scan

open Cert.Kernel16Ideal Cert.Kernel16Ideal.Gen Idealize.ShloMosaic Idealize.ShloMosaic.TcCoe Idealize.SL.Sem

/-- The head of a column of a group. -/
abbrev head (c : Fin 1024) : Fin 16 := ⟨c.val / 64, by omega⟩

/-- The column belongs to the first head of its pair. -/
theorem low_apply (i j : Fin 128) : k0_pay6 (ix2 i j) = BitVec.ofBool (decide (j.val < 64)) := by
  have : ∀ j : Fin 128, IntOp.cmpi .slt (BitVec.ofNat 32 j.val) 64#32 = BitVec.ofBool (decide (j.val < 64)) := by decide
  pointwise [k0_pay6]
  exact this j

theorem low_at (x : S128x128.Idx) : k0_pay6 x = BitVec.ofBool (decide ((x 1).val < 64)) := by
  rw [show x = ix2 (x 0) (x 1) from funext fun i => match i with | ⟨0, _⟩ => rfl | ⟨1, _⟩ => rfl]
  exact low_apply _ _

/-- A chunk's output. -/
def tile (cb : FVec Ideal S128x128 .f32) (keep : IVec S128x128 1) (r : Vec Ideal S1x1x1x16x128 .f32) (a : Vec Ideal S1x1x128x16 .f32)
    (dx ys : FVec Ideal S128x1024 .f32) : FVec Ideal S1x128x1024 .bf16 := fun y =>
  (∑ j : Fin 128, cb (ix2 (y 1) j) * Ideal.exp (Scalar.select (keep (ix2 (y 1) j)) (a (ix4 0 0 (y 1) (head (y 2))) - r (ix5 0 0 0 (head (y 2)) j)) (Ideal.ofBits .f32 0xFF800000#32))
      * dx (ix2 j (y 2)) : EReal)
    + ys (ix2 (y 1) (y 2)) * Ideal.exp (a (ix4 0 0 (y 1) (head (y 2))))

/-- A column of a piece of the output is the piece's first one and as many more. -/
theorem emb3 (o : ℕ) (inb : ∀ a, (![0, 0, o] : Fin 3 → ℕ) a + (![1, 128, 128] : Fin 3 → ℕ) a ≤ S1x128x1024.size a) (x : S1x128x128.Idx) :
    (Rect.unit (s := S1x128x1024) ![0, 0, o] ![1, 128, 128] inb).emb x
      = ix3 0 (x 1) ⟨o + (x 2).val, by have h : o + 128 ≤ 1024 := inb 2; have : (x 2).val < 128 := (x 2).isLt; omega⟩ := by
  funext a
  refine Fin.ext ?_
  rw [Rect.emb_apply]
  match a with
  | ⟨0, _⟩ => have : (x 0).val < 1 := (x 0).isLt; show 0 + 1 * (x 0).val = 0; omega
  | ⟨1, _⟩ => show 0 + 1 * (x 1).val = (x 1).val; omega
  | ⟨2, _⟩ => show o + 1 * (x 2).val = o + (x 2).val; omega

/-- The state a chunk starts from: zero at a direction's and group's first chunk. -/
def before (m : (ℓ : Loc nD τ sig) → Buf (Elt Ideal) ℓ) (c : Dev nD) (t : Fin cfg0.N) : FVec Ideal S128x1024 .f32 :=
  if t.val % 130 = 0 then k0_pay2 else (outsAt0 m c (t.val - 1) (Nat.lt_of_le_of_lt (Nat.sub_le _ _) t.isLt)).2

/-- The products of the steps and the inputs. -/
abbrev dxs (m : (ℓ : Loc nD τ sig) → Buf (Elt Ideal) ℓ) (c : Dev nD) (t : Fin cfg0.N) : FVec Ideal S128x1024 .f32 :=
  k0_pay12 (k0_pay9 (iblk m c 3 t)) (iota Kind.tc S16x1024 32 [1] iota_S16x1024_d1_w32) k0_pay10 k0_pay11 (64#32) (iblk m c 0 t)

set_option maxHeartbeats 3200000 in
/-- What a point leaves in its output block. -/
theorem out (m : (ℓ : Loc nD τ sig) → Buf (Elt Ideal) ℓ) (c : Dev nD) (t : Fin cfg0.N) :
    (outsAt0 m c t.val t.isLt).1 = tile (k0_pay4 (iblk m c 1 t) (iblk m c 2 t)) (k0_pay5 (grid0.coords t)) (iblk m c 4 t) (iblk m c 5 t)
      (dxs m c t) (k0_pay13 (iblk m c 2 t) (before m c t)) := by
  unfold before dxs
  by_cases h : t.val % 130 = 0
  on_goal 1 => rw [outsAt0_A m c t h, if_pos h]
  on_goal 2 => rw [outsAt0_B m c t h, if_neg h]
  all_goals
    frame_open
    simp (disch := decide) only [↓ View.readCov_skip, ↓ View.readCov_cons_toLoadRect, ↓ View.readCov_fill]
    frame_out
    try simp only [read_unread_whole]
    generalize k0_pay4 (F := Ideal) _ _ = cb
    generalize k0_pay5 _ = keep
    generalize k0_pay12 (F := Ideal) _ _ _ _ _ _ = dx
    generalize k0_pay13 (F := Ideal) _ _ = ys
    generalize iblk m c 4 t = r
    generalize iblk m c 5 t = a
    funext y
    refine View.canon_apply_of_pieces _ _ ?_ y ?_
    rotate_left
    · exact View.cover_of_tiledL (s := S1x128x1024) _ S1x128x128.size (by sl_kernel_rfl) y
    refine View.PiecesOf.mem ⟨fun (x : S1x128x128.Idx) => ?_, fun (x : S1x128x128.Idx) => ?_, fun (x : S1x128x128.Idx) => ?_, fun (x : S1x128x128.Idx) => ?_,
      fun (x : S1x128x128.Idx) => ?_, fun (x : S1x128x128.Idx) => ?_, fun (x : S1x128x128.Idx) => ?_, fun (x : S1x128x128.Idx) => ?_, trivial⟩
  all_goals
    refine Eq.trans ?_ (congrArg _ (emb3 _ (by decide) x).symm)
    unfold tile
    have hc : (x 2).val < 128 := (x 2).isLt
    pointwise [k0_pay7, k0_pay8, low_apply, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90]
    by_cases hx : (x 2).val < 64
    · simp only [if_pos hx, mul_zero, Finset.sum_const_zero, add_zero]
      congr 1
      · refine Finset.sum_congr rfl fun j _ => ?_
        reads_congr
        all_goals blk_ext
      · reads_congr
        all_goals blk_ext
    · simp only [if_neg hx, mul_zero, Finset.sum_const_zero, zero_add]
      congr 1
      · refine Finset.sum_congr rfl fun j _ => ?_
        reads_congr
        all_goals blk_ext
      · reads_congr
        all_goals blk_ext

/-- The same of a matrix with a group's columns. -/
theorem emb2 (n o : ℕ) (inb : ∀ a, (![0, o] : Fin 2 → ℕ) a + (![n, 128] : Fin 2 → ℕ) a ≤ (![n, 1024] : Fin 2 → ℕ) a)
    (x : Shape.Idx ⟨2, ![n, 128]⟩) :
    (Rect.unit (s := ⟨2, ![n, 1024]⟩) ![0, o] ![n, 128] inb).emb x
      = ix2 (x 0) ⟨o + (x 1).val, by have h : o + 128 ≤ 1024 := inb 1; have : (x 1).val < 128 := (x 1).isLt; omega⟩ := by
  funext a
  refine Fin.ext ?_
  rw [Rect.emb_apply]
  match a with
  | ⟨0, _⟩ => show 0 + 1 * (x 0).val = (x 0).val; omega
  | ⟨1, _⟩ => show o + 1 * (x 1).val = o + (x 1).val; omega

/-- A head's decay at the end of the chunk, the last position in the direction. -/
abbrev last (q : BitVec 1) (a : Vec Ideal S1x1x128x16 .f32) (h : Fin 16) : EReal :=
  Scalar.select q (a (ix4 0 0 127 h)) (a (ix4 0 0 0 h))

/-- The decays of the state. -/
def decs (q : BitVec 1) (a : Vec Ideal S1x1x128x16 .f32) : FVec Ideal S1x1024 .f32 := fun z => (Ideal.exp (last q a (head (z 1))) : EReal)

/-- The inputs, each with what is left of it at the end of the chunk. -/
def wxs (q : BitVec 1) (a : Vec Ideal S1x1x128x16 .f32) (dx : FVec Ideal S128x1024 .f32) : FVec Ideal S128x1024 .bf16 := fun z =>
  (Ideal.exp (last q a (head (z 1)) - a (ix4 0 0 (z 0) (head (z 1)))) * dx (ix2 (z 0) (z 1)) : EReal)

/-- The state after a chunk. -/
def next (q : BitVec 1) (bt : FVec Ideal S128x128 .bf16) (s : FVec Ideal S128x1024 .f32) (a : Vec Ideal S1x1x128x16 .f32) (dx : FVec Ideal S128x1024 .f32) :
    FVec Ideal S128x1024 .f32 := fun y =>
  (s y * Ideal.exp (last q a (head (y 1)))
    + ∑ j : Fin 128, bt (ix2 (y 0) j) * (Ideal.exp (last q a (head (y 1)) - a (ix4 0 0 j (head (y 1)))) * dx (ix2 j (y 1))) : EReal)

set_option maxHeartbeats 3200000 in
/-- The state a point leaves for the next one. -/
theorem after (m : (ℓ : Loc nD τ sig) → Buf (Elt Ideal) ℓ) (c : Dev nD) (t : Fin cfg0.N) :
    (outsAt0 m c t.val t.isLt).2 = next (Scalar.cmpi .eq (BitVec.ofNat 32 (grid0.coords t 0).val) 0#32) (k0_pay3 (iblk m c 1 t)) (before m c t) (iblk m c 5 t) (dxs m c t) := by
  unfold before dxs
  by_cases h : t.val % 130 = 0
  on_goal 1 => rw [outsAt0_A m c t h, if_pos h]
  on_goal 2 => rw [outsAt0_B m c t h, if_neg h]
  all_goals
    frame_open
    simp (disch := decide) only [↓ View.readCov_skip, ↓ View.readCov_cons_toLoadRect, ↓ View.readCov_fill]
    frame_out
    try simp only [read_unread_whole]
    generalize k0_pay12 (F := Ideal) _ _ _ _ _ _ = dx
    generalize k0_pay3 (F := Ideal) _ = bt
    generalize iblk m c 5 t = a
    generalize k0_pay4 (F := Ideal) _ _ = cb
    generalize k0_pay5 _ = keep
    generalize k0_pay13 (F := Ideal) _ _ = ys
    generalize BitVec.ofNat 32 _ = w
    unfold next
    funext y
    pointwise [k0_pay1, k0_pay2, k0_pay91]
    refine congrArg₂ (· + ·) (congrArg₂ (· * ·) rfl ?_) (Finset.sum_congr rfl fun j _ => congrArg₂ (· * ·) rfl ?_)
    · rw [View.readCov_eq_canon']
      refine (View.canon_apply_of_pieces (decs (Scalar.cmpi .eq w 0#32) a) _ ?_ _ ?_).trans ?_
      · refine View.PiecesOf.mem ⟨fun (x : S1x128.Idx) => ?_, fun (x : S1x128.Idx) => ?_, fun (x : S1x128.Idx) => ?_, fun (x : S1x128.Idx) => ?_,
          fun (x : S1x128.Idx) => ?_, fun (x : S1x128.Idx) => ?_, fun (x : S1x128.Idx) => ?_, fun (x : S1x128.Idx) => ?_, trivial⟩
        all_goals
          refine Eq.trans ?_ (congrArg (decs (Scalar.cmpi .eq w 0#32) a) (emb2 1 _ (by decide) x).symm)
          have hc : (x 1).val < 128 := (x 1).isLt
          unfold decs last
          pointwise [k0_pay8, low_apply, low_at, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90]
          by_cases hx : (x 1).val < 64
          · reads_congr
            all_goals first | blk_ext | (refine (if_pos hx).trans ?_; blk_ext)
          · reads_congr
            all_goals first | blk_ext | (refine (if_neg hx).trans ?_; blk_ext)
      · exact View.cover_of_tiledL (s := S1x1024) _ S1x128.size (by sl_kernel_rfl) _
      · unfold decs
        refine congrArg (fun h => Ideal.exp (last _ a h)) (Fin.ext ?_)
        show (0 + 1 * (y 1).val) / 64 = (y 1).val / 64
        rw [Nat.zero_add, Nat.one_mul]
    · rw [View.readCov_eq_canon']
      refine (View.canon_apply_of_pieces (wxs (Scalar.cmpi .eq w 0#32) a dx) _ ?_ _ ?_).trans ?_
      · refine View.PiecesOf.mem ⟨fun (x : S128x128.Idx) => ?_, fun (x : S128x128.Idx) => ?_, fun (x : S128x128.Idx) => ?_, fun (x : S128x128.Idx) => ?_,
          fun (x : S128x128.Idx) => ?_, fun (x : S128x128.Idx) => ?_, fun (x : S128x128.Idx) => ?_, fun (x : S128x128.Idx) => ?_, trivial⟩
        all_goals
          refine Eq.trans ?_ (congrArg (wxs (Scalar.cmpi .eq w 0#32) a dx) (emb2 128 _ (by decide) x).symm)
          have hc : (x 1).val < 128 := (x 1).isLt
          unfold wxs last
          pointwise [k0_pay8, low_apply, low_at, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90]
          by_cases hx : (x 1).val < 64
          · simp only [if_pos hx]
            reads_congr
            all_goals first | blk_ext | (refine (if_pos hx).trans ?_; blk_ext)
          · simp only [if_neg hx]
            reads_congr
            all_goals first | blk_ext | (refine (if_neg hx).trans ?_; blk_ext)
      · exact View.cover_of_tiledL (s := S128x1024) _ S128x128.size (by sl_kernel_rfl) _
      · have e : ∀ z : S128x1024.Idx, z = ix2 j (y 1) → wxs (Scalar.cmpi .eq w 0#32) a dx z
            = (Ideal.exp (last (Scalar.cmpi .eq w 0#32) a (head (y 1)) - a (ix4 0 0 j (head (y 1)))) * dx (ix2 j (y 1)) : EReal) := by
          rintro z rfl; rfl
        refine e _ (funext fun i => Fin.ext ?_)
        match i with
        | ⟨0, _⟩ => show 0 + 1 * j.val = j.val; omega
        | ⟨1, _⟩ => show 0 + 1 * (y 1).val = (y 1).val; omega

end Cert.Kernel16Ideal.Scan

end
-- ==== Proof.Scan.Block.lean ====
/-
  The scan's blocks: which chunk each of the kernel's points takes, and what the blocks it reads hold.
-/
module

public import proofs.«01_k».proof.Proof.Scan.Tile

@[expose] public section

set_option maxRecDepth 32768

noncomputable section

namespace Cert.Kernel16Ideal.Scan

open Cert.Kernel16Ideal Cert.Kernel16Ideal.Gen Idealize.ShloMosaic Idealize.ShloMosaic.TcCoe Idealize.SL.Sem
open Idealize.ShloMosaic.Pipeline (Dat)

/-- The chunk a direction visits `k`-th: forward the context's two, then the latent ones; backward all from the last. -/
def chunk (d k : ℕ) : ℕ := if d = 0 then (if k < 2 then 128 + k else k - 2) else 129 - k

theorem chunk_lt (d k : ℕ) (h : k < 130) : chunk d k < 130 := by
  unfold chunk
  split_ifs <;> omega

/-- The direction, the group and the place in the visiting order of a point. -/
abbrev dir (t : Fin cfg0.N) : Fin 2 := grid0.coords t 0
abbrev grp (t : Fin cfg0.N) : Fin 8 := grid0.coords t 1
abbrev ord (t : Fin cfg0.N) : Fin 130 := grid0.coords t 2

/-- Row `i` of a point's chunk. -/
abbrev row (d : Fin 2) (k : Fin 130) (i : Fin 128) : Fin 16640 := ⟨chunk d.val k.val * 128 + i.val, by have := chunk_lt d.val k.val k.isLt; omega⟩

/-- Which block each window is at, point by point. -/
theorem idx : ∀ t : Fin cfg0.N, win0_0.index t = ![chunk (grid0.coords t 0).val (grid0.coords t 2).val, (grid0.coords t 1).val]
    ∧ win0_1.index t = ![chunk (grid0.coords t 0).val (grid0.coords t 2).val, 64 + (grid0.coords t 1).val]
    ∧ win0_2.index t = ![chunk (grid0.coords t 0).val (grid0.coords t 2).val, 72 + (grid0.coords t 1).val]
    ∧ win0_3.index t = ![(grid0.coords t 0).val, (grid0.coords t 1).val, chunk (grid0.coords t 0).val (grid0.coords t 2).val, 0, 0]
    ∧ win0_4.index t = ![(grid0.coords t 0).val, (grid0.coords t 1).val, chunk (grid0.coords t 0).val (grid0.coords t 2).val, 0, 0]
    ∧ win0_5.index t = ![(grid0.coords t 0).val, (grid0.coords t 1).val, chunk (grid0.coords t 0).val (grid0.coords t 2).val, 0]
    ∧ win0_6.index t = ![(grid0.coords t 0).val, chunk (grid0.coords t 0).val (grid0.coords t 2).val, (grid0.coords t 1).val] :=
  (by decide +kernel : ∀ t : Fin grid0.N, _)

/-- The numbering of the points. -/
theorem coords : ∀ t : Fin cfg0.N, (grid0.coords t 0).val = t.val / 1040 ∧ (grid0.coords t 1).val = t.val / 130 % 8 ∧ (grid0.coords t 2).val = t.val % 130 :=
  (by decide +kernel : ∀ t : Fin grid0.N, _)

theorem x_at (m : (ℓ : Loc nD τ sig) → Buf (Elt Ideal) ℓ) (c : Dev nD) (t : Fin cfg0.N) (i : Fin 128) (j : Fin 1024) :
    (iblk m c 0 t : FVec Ideal S128x1024 .bf16) (ix2 i j) = m ((c : Thread nD τ).loc main_arg0) (ix2 (row (dir t) (ord t) i) ⟨(grp t).val * 1024 + j.val, by have := (grp t).isLt; omega⟩) := by
  blk_ext [iblk, V, idx t]

theorem b_at (m : (ℓ : Loc nD τ sig) → Buf (Elt Ideal) ℓ) (c : Dev nD) (t : Fin cfg0.N) (i : Fin 128) (n : Fin 128) :
    (iblk m c 1 t : FVec Ideal S128x128 .bf16) (ix2 i n) = m ((c : Thread nD τ).loc main_arg0) (ix2 (row (dir t) (ord t) i) ⟨8192 + (grp t).val * 128 + n.val, by have := (grp t).isLt; omega⟩) := by
  blk_ext [iblk, V, idx t]
  simp only [grp]; omega

theorem c_at (m : (ℓ : Loc nD τ sig) → Buf (Elt Ideal) ℓ) (c : Dev nD) (t : Fin cfg0.N) (i : Fin 128) (n : Fin 128) :
    (iblk m c 2 t : FVec Ideal S128x128 .bf16) (ix2 i n) = m ((c : Thread nD τ).loc main_arg0) (ix2 (row (dir t) (ord t) i) ⟨9216 + (grp t).val * 128 + n.val, by have := (grp t).isLt; omega⟩) := by
  blk_ext [iblk, V, idx t]
  simp only [grp]; omega

/-- The column of a head of a group, in a direction. -/
abbrev col (d : Fin 2) (g : Fin 8) (h : Fin 16) : Fin 256 := ⟨d.val * 128 + g.val * 16 + h.val, by omega⟩

theorem dt_at (m : (ℓ : Loc nD τ sig) → Buf (Elt Ideal) ℓ) (c : Dev nD) (t : Fin cfg0.N) (h : Fin 16) (j : Fin 128) :
    (iblk m c 3 t : FVec Ideal S1x1x1x16x128 .f32) (ix5 0 0 0 h j) = m ((c : Thread nD τ).loc main_arg1) (ix2 (row (dir t) (ord t) j) (col (dir t) (grp t) h)) := by
  have e : ∀ (d : Fin 2) (g : Fin 8) (k : Fin 130), V m c main_v3 (ix5 d g k h j) = m ((c : Thread nD τ).loc main_arg1) (ix2 ⟨k.val * 128 + j.val, by omega⟩ (col d g h)) := fun d g k => by
    entry_read
    pointwise
  refine Eq.trans ?_ (e (dir t) (grp t) ⟨chunk (dir t).val (ord t).val, chunk_lt _ _ (ord t).isLt⟩)
  blk_ext [iblk, idx t]
  all_goals rfl

theorem r_at (m : (ℓ : Loc nD τ sig) → Buf (Elt Ideal) ℓ) (c : Dev nD) (t : Fin cfg0.N) (h : Fin 16) (j : Fin 128) :
    (iblk m c 4 t : FVec Ideal S1x1x1x16x128 .f32) (ix5 0 0 0 h j) = m ((c : Thread nD τ).loc main_arg2) (ix2 (row (dir t) (ord t) j) (col (dir t) (grp t) h)) := by
  have e : ∀ (d : Fin 2) (g : Fin 8) (k : Fin 130), V m c main_v5 (ix5 d g k h j) = m ((c : Thread nD τ).loc main_arg2) (ix2 ⟨k.val * 128 + j.val, by omega⟩ (col d g h)) := fun d g k => by
    entry_read
    pointwise
  refine Eq.trans ?_ (e (dir t) (grp t) ⟨chunk (dir t).val (ord t).val, chunk_lt _ _ (ord t).isLt⟩)
  blk_ext [iblk, idx t]
  all_goals rfl

theorem a_at (m : (ℓ : Loc nD τ sig) → Buf (Elt Ideal) ℓ) (c : Dev nD) (t : Fin cfg0.N) (h : Fin 16) (j : Fin 128) :
    (iblk m c 5 t : FVec Ideal S1x1x128x16 .f32) (ix4 0 0 j h) = m ((c : Thread nD τ).loc main_arg2) (ix2 (row (dir t) (ord t) j) (col (dir t) (grp t) h)) := by
  have e : ∀ (d : Fin 2) (g : Fin 8) (k : Fin 16640), V m c main_v1 (ix4 d g k h) = m ((c : Thread nD τ).loc main_arg2) (ix2 k (col d g h)) := fun d g k => by
    entry_read
    pointwise
  refine Eq.trans ?_ (e (dir t) (grp t) (row (dir t) (ord t) j))
  blk_ext [iblk, idx t]
  all_goals rfl

end Cert.Kernel16Ideal.Scan

end
-- ==== Proof.Scan.Reference.lean ====
/-
  One trip of the reference's loop: the state it leaves and the rows it makes.
-/
module

public import proofs.«01_k».proof.Defs
public import proofs.«01_k».proof.Proof.Gen.Reference16Ideal.Run
public import Idealize.ShloMosaic.Lib.Pipeline.ValueKit
public import Idealize.ShloMosaic.Lib.WordCmp

@[expose] public section

set_option maxRecDepth 32768

noncomputable section

namespace Cert.Reference16Ideal.Scan

open Cert.Reference16Ideal Cert.Reference16Ideal.Gen Cert.Reference16Ideal.Value Idealize.ShloMosaic Idealize.ShloMosaic.TcCoe Idealize.SL.Sem
open Idealize.ShloMosaic.StableHlo

/-- A trip's number, as a slice's start. -/
theorem start : ∀ k : Fin 130, (min (max (BitVec.ofNat 32 k.val).toInt 0) ((130 - 1 : ℕ) : Int)).toNat = k.val := by decide +kernel

/-- A chunk's slice of all the rows, at a trip's number. -/
theorem slice_at {N : ℕ} {α : Type} (k : Fin 130) (v : (⟨4, ![130, 2, 128, N]⟩ : Shape).Idx → α) (fits : (⟨4, ![130, 2, 128, N]⟩ : Shape).Slices (fun _ => 0) ⟨4, ![1, 2, 128, N]⟩) (d : Fin 2) (j : Fin 128) (x : Fin N) :
    Host.dynamicSlice ⟨4, ![1, 2, 128, N]⟩ v (fun a => (((![constantI S_ 32 (BitVec.ofNat 32 k.val), constantI S_ 32 0#32, constantI S_ 32 0#32, constantI S_ 32 0#32] : Fin 4 → (⟨S_, .i32⟩ : BufTy).Contents (Elt Ideal))) a (Shape.Idx.first h_S_)).toInt) fits (ix4 0 d j x)
      = v (ix4 k d j x) := by
  unfold Host.dynamicSlice
  refine congrArg v (funext fun a => Fin.ext ?_)
  match a with
  | ⟨0, _⟩ => exact start k
  | ⟨1, _⟩ => exact Nat.zero_add _
  | ⟨2, _⟩ => exact Nat.zero_add _
  | ⟨3, _⟩ =>
    show (min (max 0 0) ((N - N : ℕ) : Int)).toNat + x.val = x.val
    rw [Nat.sub_self]
    exact Nat.zero_add _

variable (V0 : Valuation τ sig (Elt Ideal)) (k : Fin 130) (hk : V0 (Proc.devRef .tc main_v26_3) = constantI S_ 32 (BitVec.ofNat 32 k.val))

/-- The last row a direction visits of a chunk. -/
abbrev final (d : Fin 2) : Fin 128 := if d = 0 then 127 else 0

/-- The column of a head of a group, in a direction. -/
abbrev col (d : Fin 2) (g : Fin 8) (h : Fin 16) : Fin 256 := ⟨d.val * 128 + g.val * 16 + h.val, by omega⟩

include hk in
theorem rows_at (d : Fin 2) (j : Fin 128) (x : Fin 10240) : res_main_while0b_v44 V0 (ix3 d j x) = V0 (Proc.devRef .tc main_v26_0) (ix4 k d j x) := by
  have e : res_main_while0b_v44 V0 (ix3 d j x) = Host.dynamicSlice S1x2x128x10240 (V0 (Proc.devRef .tc main_v26_0)) (fun k => (((![V0 (Proc.devRef .tc main_v26_3), constantI S_ 32 0#32, constantI S_ 32 0#32, constantI S_ 32 0#32] : Fin 4 → (⟨S_, .i32⟩ : BufTy).Contents (Elt Ideal))) k (Shape.Idx.first h_S_)).toInt) sliceFits_S130x2x128x10240_S1x2x128x10240 (ix4 0 d j x) := by
    unfold res_main_while0b_v44
    pointwise
  rw [e, hk]
  exact slice_at k _ _ d j x

include hk in
theorem steps_at (d : Fin 2) (j : Fin 128) (x : Fin 256) : res_main_while0b_v42 V0 (ix3 d j x) = V0 (Proc.devRef .tc main_v26_1) (ix4 k d j x) := by
  have e : res_main_while0b_v42 V0 (ix3 d j x) = Host.dynamicSlice S1x2x128x256 (V0 (Proc.devRef .tc main_v26_1)) (fun k => (((![V0 (Proc.devRef .tc main_v26_3), constantI S_ 32 0#32, constantI S_ 32 0#32, constantI S_ 32 0#32] : Fin 4 → (⟨S_, .i32⟩ : BufTy).Contents (Elt Ideal))) k (Shape.Idx.first h_S_)).toInt) sliceFits_S130x2x128x256_S1x2x128x256 (ix4 0 d j x) := by
    unfold res_main_while0b_v42
    pointwise
  rw [e, hk]
  exact slice_at k _ _ d j x

include hk in
theorem logs_at (d : Fin 2) (j : Fin 128) (x : Fin 256) : res_main_while0b_v43 V0 (ix3 d j x) = V0 (Proc.devRef .tc main_v26_2) (ix4 k d j x) := by
  have e : res_main_while0b_v43 V0 (ix3 d j x) = Host.dynamicSlice S1x2x128x256 (V0 (Proc.devRef .tc main_v26_2)) (fun k => (((![V0 (Proc.devRef .tc main_v26_3), constantI S_ 32 0#32, constantI S_ 32 0#32, constantI S_ 32 0#32] : Fin 4 → (⟨S_, .i32⟩ : BufTy).Contents (Elt Ideal))) k (Shape.Idx.first h_S_)).toInt) sliceFits_S130x2x128x256_S1x2x128x256 (ix4 0 d j x) := by
    unfold res_main_while0b_v43
    pointwise
  rw [e, hk]
  exact slice_at k _ _ d j x

theorem x_at (d : Fin 2) (j : Fin 128) (g : Fin 8) (h : Fin 16) (p : Fin 64) : res_main_while0b_v48 V0 (ix5 d j g h p)
    = res_main_while0b_v44 V0 (ix3 d j ⟨g.val * 1024 + h.val * 64 + p.val, by omega⟩) := by
  unfold res_main_while0b_v48
  pointwise

theorem b_at (d : Fin 2) (j : Fin 128) (g : Fin 8) (n : Fin 128) : res_main_while0b_v49 V0 (ix4 d j g n)
    = res_main_while0b_v44 V0 (ix3 d j ⟨8192 + (g.val * 128 + n.val), by omega⟩) := by
  unfold res_main_while0b_v49
  pointwise

theorem c_at (d : Fin 2) (j : Fin 128) (g : Fin 8) (n : Fin 128) : res_main_while0b_v50 V0 (ix4 d j g n)
    = res_main_while0b_v44 V0 (ix3 d j ⟨9216 + (g.val * 128 + n.val), by omega⟩) := by
  unfold res_main_while0b_v50
  pointwise

theorem dt_at (d : Fin 2) (j : Fin 128) (g : Fin 8) (h : Fin 16) : res_main_while0b_v58 V0 (ix4 d j g h) = res_main_while0b_v42 V0 (ix3 d j (col d g h)) := by
  unfold res_main_while0b_v58
  fin_cases d <;> pointwise
  · exact congrArg _ (congrArg (ix3 _ _) (Fin.ext (by show g.val * 16 + h.val = 0 * 128 + g.val * 16 + h.val; omega)))
  · exact congrArg _ (congrArg (ix3 _ _) (Fin.ext (by show 128 + (g.val * 16 + h.val) = 1 * 128 + g.val * 16 + h.val; omega)))

theorem a_at (d : Fin 2) (j : Fin 128) (g : Fin 8) (h : Fin 16) : res_main_while0b_v66 V0 (ix4 d j g h) = res_main_while0b_v43 V0 (ix3 d j (col d g h)) := by
  unfold res_main_while0b_v66
  fin_cases d <;> pointwise
  · exact congrArg _ (congrArg (ix3 _ _) (Fin.ext (by show g.val * 16 + h.val = 0 * 128 + g.val * 16 + h.val; omega)))
  · exact congrArg _ (congrArg (ix3 _ _) (Fin.ext (by show 128 + (g.val * 16 + h.val) = 1 * 128 + g.val * 16 + h.val; omega)))

theorem last_at (d : Fin 2) (g : Fin 8) (h : Fin 16) : res_main_while0b_v112 V0 (ix3 d g h) = res_main_while0b_v66 V0 (ix4 d (final d) g h) := by
  unfold res_main_while0b_v112
  fin_cases d <;> pointwise <;> rfl

/-- A trip's values: the inputs, the two projections, the steps, the sums of logarithms, and those of the chunk's last row. -/
abbrev xv : FVec Ideal S2x128x8x16x64 .f32 := res_main_while0b_v48 V0
abbrev bv : FVec Ideal S2x128x8x128 .f32 := res_main_while0b_v49 V0
abbrev cv : FVec Ideal S2x128x8x128 .f32 := res_main_while0b_v50 V0
abbrev dv : FVec Ideal S2x128x8x16 .f32 := res_main_while0b_v58 V0
abbrev av : FVec Ideal S2x128x8x16 .f32 := res_main_while0b_v66 V0
abbrev lv : FVec Ideal S2x8x16 .f32 := res_main_while0b_v112 V0
abbrev sv : FVec Ideal S2x8x16x64x128 .f32 := V0 (Proc.devRef .tc main_v26_4)
abbrev yv : FVec Ideal S130x2x128x8x16x64 .f32 := V0 (Proc.devRef .tc main_v26_5)

/-- The state after a trip. -/
theorem next_at (d : Fin 2) (g : Fin 8) (h : Fin 16) (p : Fin 64) (n : Fin 128) : (step_main_v26_4 V0 : FVec Ideal S2x8x16x64x128 .f32) (ix5 d g h p n)
    = sv V0 (ix5 d g h p n) * Ideal.exp (lv V0 (ix3 d g h))
      + ∑ j : Fin 128, Ideal.exp (lv V0 (ix3 d g h) - av V0 (ix4 d j g h)) * dv V0 (ix4 d j g h) * xv V0 (ix5 d j g h p) * bv V0 (ix4 d j g n) := by
  unfold step_main_v26_4
  rw [id_eq]
  pointwise

/-- The word of whether the direction has seen row `j` at row `i`. -/
def seen (d : Fin 2) (i j : Fin 128) : BitVec 1 :=
  if d = 0 then IntOp.cmpi .sge (BitVec.ofNat 32 i.val) (BitVec.ofNat 32 j.val) else IntOp.cmpi .sle (BitVec.ofNat 32 i.val) (BitVec.ofNat 32 j.val)

/-- A trip's rows. -/
def made (d : Fin 2) (i : Fin 128) (g : Fin 8) (h : Fin 16) (p : Fin 64) : EReal :=
  (∑ j : Fin 128, xv V0 (ix5 d j g h p) * ((∑ n : Fin 128, bv V0 (ix4 d j g n) * cv V0 (ix4 d i g n))
      * Ideal.exp (Scalar.select (seen d i j) (av V0 (ix4 d i g h) - av V0 (ix4 d j g h)) (Ideal.ofBits .f32 0xFF800000#32))
      * dv V0 (ix4 d j g h)))
    + (∑ n : Fin 128, sv V0 (ix5 d g h p n) * cv V0 (ix4 d i g n)) * Ideal.exp (av V0 (ix4 d i g h))

/-- A block of rows put at a trip's number. -/
theorem put (x : FVec Ideal S130x2x128x8x16x64 .f32) (u : FVec Ideal S1x2x128x8x16x64 .f32) (k k' : Fin 130) (d : Fin 2) (i : Fin 128) (g : Fin 8) (h : Fin 16) (p : Fin 64) :
    Host.dynamicUpdateSlice x u (fun a => (((![constantI S_ 32 (BitVec.ofNat 32 k.val), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt)
        updateFits_S130x2x128x8x16x64_S1x2x128x8x16x64 (ix6 k' d i g h p)
      = if k' = k then u (ix6 0 d i g h p) else x (ix6 k' d i g h p) := by
  have fits : S130x2x128x8x16x64.Slices (![k.val, 0, 0, 0, 0, 0] : Fin 6 → ℕ) S1x2x128x8x16x64 := ⟨rfl, fun a => by
    fin_cases a
    · show k.val + 1 ≤ 130; omega
    all_goals exact Nat.le_refl _⟩
  have places : ∀ a : Fin 6, (((![constantI S_ 32 (BitVec.ofNat 32 k.val), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt
      = (((![k.val, 0, 0, 0, 0, 0] : Fin 6 → ℕ) a : ℕ) : Int) := fun a => by
    fin_cases a
    · exact Idealize.ShloMosaic.WordCmp.toInt_ofNat_of_lt (by have := k.isLt; omega)
    all_goals rfl
  refine (congrFun (Idealize.ShloMosaic.WordCmp.dynamicUpdateSlice_eq_update x u _ updateFits_S130x2x128x8x16x64_S1x2x128x8x16x64 _ fits places) _).trans ?_
  unfold updateSlice
  by_cases e : k' = k
  · subst e
    rw [if_pos rfl, dif_pos fun a => by
      fin_cases a
      · exact ⟨Nat.le_refl _, Nat.lt_succ_self _⟩
      · exact ⟨Nat.zero_le _, by show d.val < 0 + 2; omega⟩
      · exact ⟨Nat.zero_le _, by show i.val < 0 + 128; omega⟩
      · exact ⟨Nat.zero_le _, by show g.val < 0 + 8; omega⟩
      · exact ⟨Nat.zero_le _, by show h.val < 0 + 16; omega⟩
      · exact ⟨Nat.zero_le _, by show p.val < 0 + 64; omega⟩]
    refine congrArg u (funext fun a => Fin.ext ?_)
    fin_cases a
    · exact Nat.sub_self _
    all_goals rfl
  · rw [if_neg e, dif_neg]
    intro hin
    have h0 : k.val ≤ k'.val ∧ k'.val < k.val + 1 := hin 0
    exact e (Fin.ext (by omega))

include hk in
/-- The rows after a trip: its own are put at its number, the others are left. -/
theorem rows_after (k' : Fin 130) (d : Fin 2) (i : Fin 128) (g : Fin 8) (h : Fin 16) (p : Fin 64) : (step_main_v26_5 V0 : FVec Ideal S130x2x128x8x16x64 .f32) (ix6 k' d i g h p)
    = if k' = k then made V0 d i g h p else yv V0 (ix6 k' d i g h p) := by
  unfold step_main_v26_5
  rw [id_eq, hk]
  refine (put _ _ k k' d i g h p).trans ?_
  refine if_congr Iff.rfl ?_ rfl
  unfold made seen res_main_while0b_v68 res_main_while0b_v69
  fin_cases d <;> pointwise <;> rfl

end Cert.Reference16Ideal.Scan

end
-- ==== Proof.Scan.Terms.lean ====
/-
  The factors of a chunk's sums in the kernel, entry by entry.
-/
module

public import proofs.«01_k».proof.Proof.Scan.Block
public import proofs.«01_k».proof.Proof.Scan.Reference

@[expose] public section

set_option maxRecDepth 32768

noncomputable section

namespace Cert.Kernel16Ideal.Scan

open Cert.Kernel16Ideal Cert.Kernel16Ideal.Gen Idealize.ShloMosaic Idealize.ShloMosaic.TcCoe Idealize.SL.Sem

theorem cb_at (b c : FVec Ideal S128x128 .bf16) (i j : Fin 128) : k0_pay4 (F := Ideal) b c (ix2 i j) = ∑ n : Fin 128, c (ix2 i n) * b (ix2 j n) := by
  unfold k0_pay4 k0_pay3
  pointwise

theorem bt_at (b : FVec Ideal S128x128 .bf16) (n j : Fin 128) : k0_pay3 (F := Ideal) b (ix2 n j) = b (ix2 j n) := by
  unfold k0_pay3
  pointwise

theorem ys_at (c : FVec Ideal S128x128 .bf16) (s : FVec Ideal S128x1024 .f32) (i : Fin 128) (y : Fin 1024) :
    k0_pay13 (F := Ideal) c s (ix2 i y) = ∑ n : Fin 128, c (ix2 i n) * s (ix2 n y) := by
  unfold k0_pay13
  pointwise

/-- The words of the two directions' comparisons. -/
theorem sign (d : Fin 2) (i j : Fin 128) :
    IntOp.cmpi .sge (Scalar.select (IntOp.cmpi .eq (BitVec.ofNat 32 d.val) 0#32) (BitVec.ofNat 32 i.val - BitVec.ofNat 32 j.val) (BitVec.ofNat 32 j.val - BitVec.ofNat 32 i.val)) 0#32
      = Cert.Reference16Ideal.Scan.seen d i j := by
  revert i j
  fin_cases d <;> decide +kernel

theorem keep_at (z : grid0.Coords) (i j : Fin 128) : k0_pay5 z (ix2 i j) = Cert.Reference16Ideal.Scan.seen (z 0) i j := by
  refine Eq.trans ?_ (sign (z 0) i j)
  unfold k0_pay5 Scalar.select
  dsimp only
  split_ifs <;> first | contradiction | (pointwise; rfl)

theorem last_at (d : Fin 2) (a : Vec Ideal S1x1x128x16 .f32) (h : Fin 16) :
    last (Scalar.cmpi .eq (BitVec.ofNat 32 d.val) 0#32) a h = a (ix4 0 0 (Cert.Reference16Ideal.Scan.final d) h) := by
  fin_cases d <;> rfl

/-- A column is of one head: the one of its 64. -/
theorem words : ∀ (h : Fin 16) (y : Fin 1024), (IntOp.cmpi .sge (BitVec.ofNat 32 y.val) (IntOp.muli (BitVec.ofNat 32 h.val) 64#32) = 1
    ∧ IntOp.cmpi .slt (BitVec.ofNat 32 y.val) (IntOp.addi (IntOp.muli (BitVec.ofNat 32 h.val) 64#32) 64#32) = 1) ↔ h = head y := by decide +kernel

theorem pick (h : Fin 16) (y : Fin 1024) (v : EReal) :
    Scalar.select (IntOp.cmpi .sge (BitVec.ofNat 32 y.val) (IntOp.muli (BitVec.ofNat 32 h.val) 64#32))
      (Scalar.select (IntOp.cmpi .slt (BitVec.ofNat 32 y.val) (IntOp.addi (IntOp.muli (BitVec.ofNat 32 h.val) 64#32) 64#32)) v 0) 0 = if h = head y then v else 0 := by
  have w := words h y
  unfold Scalar.select
  by_cases e : h = head y
  · rw [if_pos e, if_pos (w.2 e).1, if_pos (w.2 e).2]
  · rw [if_neg e]
    split_ifs with p q
    · exact absurd (w.1 ⟨p, q⟩) e
    · rfl
    · rfl

/-- The steps spread over the columns, times the inputs: the two pieces of a finite step add up to it. -/
theorem spread (v : FVec Ideal S1x1x1x16x128 .f32) (x : FVec Ideal S128x1024 .bf16) (fin : ∀ h j, ∃ r : ℝ, v (ix5 0 0 0 h j) = (r : EReal)) (j : Fin 128) (y : Fin 1024) :
    k0_pay12 (F := Ideal) (k0_pay9 v) (iota Kind.tc S16x1024 32 [1] iota_S16x1024_d1_w32) k0_pay10 k0_pay11 (64#32) x (ix2 j y) = v (ix5 0 0 0 (head y) j) * x (ix2 j y) := by
  have p10 : ∀ h : Fin 16, k0_pay10 (ix2 h y) = IntOp.muli (BitVec.ofNat 32 h.val) 64#32 := fun h => by
    unfold k0_pay10
    pointwise
  unfold k0_pay12 k0_pay9 k0_pay11
  pointwise
  simp only [p10, pick, Finset.sum_ite_eq', Finset.mem_univ, if_true]
  obtain ⟨r, hr⟩ := fin (head y) j
  rw [hr, ← EReal.coe_sub, ← EReal.coe_add, sub_self, zero_add]

end Cert.Kernel16Ideal.Scan

end
-- ==== Proof.Scan.Entry.lean ====
/-
  What the reference's loop starts from: the rows, the steps and the sums of their decays, in the order of its trips.
-/
module

public import proofs.«01_k».proof.Proof.Scan.Block
public import proofs.«01_k».proof.Proof.Gen.Reference16Ideal.Run
public import proofs.«01_k».proof.Proof.Gen.Reference16Ideal.Step

@[expose] public section

set_option maxRecDepth 32768

noncomputable section

namespace Cert.Reference16Ideal.Scan

open Cert.Reference16Ideal Cert.Reference16Ideal.Gen Idealize.ShloMosaic Idealize.ShloMosaic.TcCoe Idealize.SL.Sem
open Idealize.ShloMosaic.StableHlo
open Cert.Reference16Ideal.Step
open Cert.Kernel16Ideal.Scan (chunk row)

/-- Forward, the context's two chunks come first. -/
theorem forward {N : ℕ} {α : Type} (a : (⟨2, ![16640, N]⟩ : Shape).Idx → α) (k : Fin 130) (j : Fin 128) (x : Fin N) :
    (if _ : k.val < 2 then a (ix2 ⟨(128 + k.val) * 128 + j.val, by omega⟩ x) else a (ix2 ⟨(k.val - 2) * 128 + j.val, by omega⟩ x)) = a (ix2 (row 0 k j) x) := by
  by_cases h : k.val < 2
  · rw [dif_pos h]
    refine congrArg a (congrArg (fun r => ix2 r x) (Fin.ext ?_))
    show _ = chunk 0 k.val * 128 + j.val
    rw [chunk, if_pos rfl, if_pos h]
  · rw [dif_neg h]
    refine congrArg a (congrArg (fun r => ix2 r x) (Fin.ext ?_))
    show _ = chunk 0 k.val * 128 + j.val
    rw [chunk, if_pos rfl, if_neg h]

/-- Backward, all come from the last. -/
theorem backward {N : ℕ} {α : Type} (a : (⟨2, ![16640, N]⟩ : Shape).Idx → α) (k : Fin 130) (j : Fin 128) (x : Fin N) :
    a (ix2 ⟨k.rev.val * 128 + j.val, by have := k.rev.isLt; omega⟩ x) = a (ix2 (row 1 k j) x) := by
  refine congrArg a (congrArg (fun r => ix2 r x) (Fin.ext ?_))
  show k.rev.val * 128 + j.val = (129 - k.val) * 128 + j.val
  rw [Fin.val_rev]
  omega

variable (a0 : FVec Ideal S16640x10240 .bf16) (a1 a2 : FVec Ideal S16640x256 .f32)

/-- The rows by visiting order, chunk and direction. -/
theorem rows_entry (k : Fin 130) (d : Fin 2) (j : Fin 128) (x : Fin 10240) :
    (A_main_v8 (F := Ideal) a0 a1 a2 : FVec Ideal S130x2x128x10240 .bf16) (ix4 k d j x) = a0 (ix2 (row d k j) x) := by
  unfold A_main_v8 A_main_v7 A_main_v6 A_main_v5 A_main_v4 A_main_v3 A_main_v2 A_main_v1
  fin_cases d <;> pointwise
  · exact forward a0 k j x
  · exact backward a0 k j x

theorem steps_entry (k : Fin 130) (d : Fin 2) (j : Fin 128) (x : Fin 256) :
    (A_main_v16 (F := Ideal) a0 a1 a2 : FVec Ideal S130x2x128x256 .f32) (ix4 k d j x) = a1 (ix2 (row d k j) x) := by
  unfold A_main_v16 A_main_v15 A_main_v14 A_main_v13 A_main_v12 A_main_v11 A_main_v10 A_main_v9
  fin_cases d <;> pointwise
  · exact forward a1 k j x
  · exact backward a1 k j x

theorem logs_entry (k : Fin 130) (d : Fin 2) (j : Fin 128) (x : Fin 256) :
    (A_main_v24 (F := Ideal) a0 a1 a2 : FVec Ideal S130x2x128x256 .f32) (ix4 k d j x) = a2 (ix2 (row d k j) x) := by
  unfold A_main_v24 A_main_v23 A_main_v22 A_main_v21 A_main_v20 A_main_v19 A_main_v18 A_main_v17
  fin_cases d <;> pointwise
  · exact forward a2 k j x
  · exact backward a2 k j x

section Loop

open Cert.Reference16Ideal.Value

variable (m : (ℓ : Loc nD τ sig) → Buf (Elt Ideal) ℓ) (c : Dev nD)

set_option maxRecDepth 65536 in
set_option maxHeartbeats 2000000 in
theorem entry0 : entryContents preI m c (Proc.devRef .tc main_v26_0) = A_main_v8 (F := Ideal) (m ((c.tc : Thread nD τ).loc main_arg0)) (m ((c.tc : Thread nD τ).loc main_arg1)) (m ((c.tc : Thread nD τ).loc main_arg2)) := by
  simp only [entryContents, afterL_cons, afterL_nil]
  after_reads_simp
  all_goals rfl

set_option maxRecDepth 65536 in
set_option maxHeartbeats 2000000 in
theorem entry1 : entryContents preI m c (Proc.devRef .tc main_v26_1) = A_main_v16 (F := Ideal) (m ((c.tc : Thread nD τ).loc main_arg0)) (m ((c.tc : Thread nD τ).loc main_arg1)) (m ((c.tc : Thread nD τ).loc main_arg2)) := by
  simp only [entryContents, afterL_cons, afterL_nil]
  after_reads_simp
  all_goals rfl

set_option maxRecDepth 65536 in
set_option maxHeartbeats 2000000 in
theorem entry2 : entryContents preI m c (Proc.devRef .tc main_v26_2) = A_main_v24 (F := Ideal) (m ((c.tc : Thread nD τ).loc main_arg0)) (m ((c.tc : Thread nD τ).loc main_arg1)) (m ((c.tc : Thread nD τ).loc main_arg2)) := by
  simp only [entryContents, afterL_cons, afterL_nil]
  after_reads_simp
  all_goals rfl

set_option maxRecDepth 65536 in
set_option maxHeartbeats 2000000 in
theorem entry4 : entryContents preI m c (Proc.devRef .tc main_v26_4) = K_main_v0 (F := Ideal) := by
  simp only [entryContents, afterL_cons, afterL_nil]
  after_reads_simp
  all_goals rfl

/-- What a trip finds: its number, and the rows, steps and sums the loop was entered with. -/
theorem held (k : ℕ) : (STEP^[k] (entryContents preI m c)) (Proc.devRef .tc main_v26_3) = constantI S_ 32 (BitVec.ofNat 32 k)
    ∧ (STEP^[k] (entryContents preI m c)) (Proc.devRef .tc main_v26_0) = entryContents preI m c (Proc.devRef .tc main_v26_0)
    ∧ (STEP^[k] (entryContents preI m c)) (Proc.devRef .tc main_v26_1) = entryContents preI m c (Proc.devRef .tc main_v26_1)
    ∧ (STEP^[k] (entryContents preI m c)) (Proc.devRef .tc main_v26_2) = entryContents preI m c (Proc.devRef .tc main_v26_2) := by
  induction k with
  | zero => exact ⟨ctr_entry m c, rfl, rfl, rfl⟩
  | succ k ih =>
    rw [Function.iterate_succ_apply', STEP_main_v26_0, STEP_main_v26_1, STEP_main_v26_2, STEP_main_v26_3]
    refine ⟨?_, ih.2⟩
    unfold step_main_v26_3
    rw [ih.1]
    exact funext fun _ => (BitVec.ofNat_add k 1).symm

end Loop

end Cert.Reference16Ideal.Scan

end
-- ==== Proof.Scan.Main.lean ====
/-
  One trip against one point: where the states before agree, the rows made and the states after agree.
-/
module

public import proofs.«01_k».proof.Proof.Scan.Terms
public import proofs.«01_k».proof.Proof.Scan.Entry

@[expose] public section

set_option maxRecDepth 32768

noncomputable section

namespace Cert.Scan

open Idealize.ShloMosaic Idealize.ShloMosaic.TcCoe Idealize.SL.Sem
open Idealize.ShloMosaic.StableHlo
open Cert.Kernel16Ideal.Scan (chunk row dir grp ord head before dxs tile next last)
open Cert.Kernel16Ideal.Gen (iblk outsAt0)
open Cert.Kernel16Ideal (cfg0 grid0)
open Cert.Reference16Ideal.Value (STEP preI)
open Cert.Reference16Ideal.Scan (xv bv cv dv av lv sv yv)

/-- Where the heads' columns lie in a group. -/
abbrev at_ (h : Fin 16) (p : Fin 64) : Fin 1024 := ⟨h.val * 64 + p.val, by omega⟩

theorem head_at (h : Fin 16) (p : Fin 64) : head (at_ h p) = h := Fin.ext (by show (h.val * 64 + p.val) / 64 = h.val; omega)

theorem next_at (q : BitVec 1) (bt : FVec Ideal Kernel16Ideal.S128x128 .bf16) (s : FVec Ideal Kernel16Ideal.S128x1024 .f32) (a : Vec Ideal Kernel16Ideal.S1x1x128x16 .f32) (dx : FVec Ideal Kernel16Ideal.S128x1024 .f32)
    (n : Fin 128) (h : Fin 16) (p : Fin 64) : next q bt s a dx (ix2 n (at_ h p))
      = s (ix2 n (at_ h p)) * Ideal.exp (last q a h) + ∑ j : Fin 128, bt (ix2 n j) * (Ideal.exp (last q a h - a (ix4 0 0 j h)) * dx (ix2 j (at_ h p))) := by
  have e := head_at h p
  show s (ix2 n (at_ h p)) * Ideal.exp (last q a (head (at_ h p))) + ∑ j : Fin 128, bt (ix2 n j) * (Ideal.exp (last q a (head (at_ h p)) - a (ix4 0 0 j (head (at_ h p)))) * dx (ix2 j (at_ h p))) = _
  rw [e]

theorem tile_at (cb : FVec Ideal Kernel16Ideal.S128x128 .f32) (keep : IVec Kernel16Ideal.S128x128 1) (r : Vec Ideal Kernel16Ideal.S1x1x1x16x128 .f32) (a : Vec Ideal Kernel16Ideal.S1x1x128x16 .f32)
    (dx ys : FVec Ideal Kernel16Ideal.S128x1024 .f32) (i : Fin 128) (h : Fin 16) (p : Fin 64) : tile cb keep r a dx ys (ix3 0 i (at_ h p))
      = (∑ j : Fin 128, cb (ix2 i j) * Ideal.exp (Scalar.select (keep (ix2 i j)) (a (ix4 0 0 i h) - r (ix5 0 0 0 h j)) (Ideal.ofBits .f32 0xFF800000#32)) * dx (ix2 j (at_ h p)))
        + ys (ix2 i (at_ h p)) * Ideal.exp (a (ix4 0 0 i h)) := by
  have e := head_at h p
  show (∑ j : Fin 128, cb (ix2 i j) * Ideal.exp (Scalar.select (keep (ix2 i j)) (a (ix4 0 0 i (head (at_ h p))) - r (ix5 0 0 0 (head (at_ h p)) j)) (Ideal.ofBits .f32 0xFF800000#32)) * dx (ix2 j (at_ h p)))
    + ys (ix2 i (at_ h p)) * Ideal.exp (a (ix4 0 0 i (head (at_ h p)))) = _
  rw [e]

variable (m : (ℓ : Loc Kernel16Ideal.nD Kernel16Ideal.τ Kernel16Ideal.sig) → Buf (Elt Ideal) ℓ)
  (m' : (ℓ : Loc Reference16Ideal.nD Reference16Ideal.τ Reference16Ideal.sig) → Buf (Elt Ideal) ℓ) (c : Dev Kernel16Ideal.nD)

abbrev A0 : FVec Ideal Kernel16Ideal.S16640x10240 .bf16 := m ((c : Thread Kernel16Ideal.nD Kernel16Ideal.τ).loc Kernel16Ideal.main_arg0)
abbrev A1 : FVec Ideal Kernel16Ideal.S16640x256 .f32 := m ((c : Thread Kernel16Ideal.nD Kernel16Ideal.τ).loc Kernel16Ideal.main_arg1)
abbrev A2 : FVec Ideal Kernel16Ideal.S16640x256 .f32 := m ((c : Thread Kernel16Ideal.nD Kernel16Ideal.τ).loc Kernel16Ideal.main_arg2)

variable (e0 : m' ((c.tc : Thread Reference16Ideal.nD Reference16Ideal.τ).loc Reference16Ideal.main_arg0) = A0 m c)
  (e1 : m' ((c.tc : Thread Reference16Ideal.nD Reference16Ideal.τ).loc Reference16Ideal.main_arg1) = A1 m c)
  (e2 : m' ((c.tc : Thread Reference16Ideal.nD Reference16Ideal.τ).loc Reference16Ideal.main_arg2) = A2 m c)

/-- What the reference's loop has carried to a trip. -/
abbrev Vk (k : ℕ) : Valuation Reference16Ideal.τ Reference16Ideal.sig (Elt Ideal) := STEP^[k] (entryContents preI m' c)

include e0 in
theorem rows (k : Fin 130) (d : Fin 2) (j : Fin 128) (x : Fin 10240) : (Reference16Ideal.Value.res_main_while0b_v44 (Vk m' c k.val) : FVec Ideal Reference16Ideal.S2x128x10240 .f32) (ix3 d j x) = A0 m c (ix2 (row d k j) x) := by
  refine (Reference16Ideal.Scan.rows_at _ k (Reference16Ideal.Scan.held m' c k.val).1 d j x).trans ?_
  rw [(Reference16Ideal.Scan.held m' c k.val).2.1, Reference16Ideal.Scan.entry0, e0]
  exact Reference16Ideal.Scan.rows_entry _ _ _ k d j x

include e1 in
theorem steps (k : Fin 130) (d : Fin 2) (j : Fin 128) (x : Fin 256) : (Reference16Ideal.Value.res_main_while0b_v42 (Vk m' c k.val) : FVec Ideal Reference16Ideal.S2x128x256 .f32) (ix3 d j x) = A1 m c (ix2 (row d k j) x) := by
  refine (Reference16Ideal.Scan.steps_at _ k (Reference16Ideal.Scan.held m' c k.val).1 d j x).trans ?_
  rw [(Reference16Ideal.Scan.held m' c k.val).2.2.1, Reference16Ideal.Scan.entry1, e1]
  exact Reference16Ideal.Scan.steps_entry _ _ _ k d j x

include e2 in
theorem logs (k : Fin 130) (d : Fin 2) (j : Fin 128) (x : Fin 256) : (Reference16Ideal.Value.res_main_while0b_v43 (Vk m' c k.val) : FVec Ideal Reference16Ideal.S2x128x256 .f32) (ix3 d j x) = A2 m c (ix2 (row d k j) x) := by
  refine (Reference16Ideal.Scan.logs_at _ k (Reference16Ideal.Scan.held m' c k.val).1 d j x).trans ?_
  rw [(Reference16Ideal.Scan.held m' c k.val).2.2.2, Reference16Ideal.Scan.entry2, e2]
  exact Reference16Ideal.Scan.logs_entry _ _ _ k d j x

section Point

variable (t : Fin cfg0.N)

/-- The trip a point is of. -/
abbrev Vt : Valuation Reference16Ideal.τ Reference16Ideal.sig (Elt Ideal) := Vk m' c (ord t).val

include e2 in
theorem a_eq (j : Fin 128) (h : Fin 16) : av (Vt m' c t) (ix4 (dir t) j (grp t) h) = (iblk m c 5 t : FVec Ideal Kernel16Ideal.S1x1x128x16 .f32) (ix4 0 0 j h) :=
  (Reference16Ideal.Scan.a_at _ (dir t) j (grp t) h).trans ((logs m m' c e2 (ord t) (dir t) j _).trans (Kernel16Ideal.Scan.a_at m c t h j).symm)

include e2 in
theorem r_eq (j : Fin 128) (h : Fin 16) : av (Vt m' c t) (ix4 (dir t) j (grp t) h) = (iblk m c 4 t : FVec Ideal Kernel16Ideal.S1x1x1x16x128 .f32) (ix5 0 0 0 h j) :=
  (Reference16Ideal.Scan.a_at _ (dir t) j (grp t) h).trans ((logs m m' c e2 (ord t) (dir t) j _).trans (Kernel16Ideal.Scan.r_at m c t h j).symm)

include e2 in
theorem l_eq (h : Fin 16) : lv (Vt m' c t) (ix3 (dir t) (grp t) h) = (iblk m c 5 t : FVec Ideal Kernel16Ideal.S1x1x128x16 .f32) (ix4 0 0 (Reference16Ideal.Scan.final (dir t)) h) :=
  (Reference16Ideal.Scan.last_at _ (dir t) (grp t) h).trans (a_eq m m' c e2 t _ h)

include e0 in
theorem b_eq (j n : Fin 128) : bv (Vt m' c t) (ix4 (dir t) j (grp t) n) = (iblk m c 1 t : FVec Ideal Kernel16Ideal.S128x128 .bf16) (ix2 j n) :=
  (Reference16Ideal.Scan.b_at _ (dir t) j (grp t) n).trans ((rows m m' c e0 (ord t) (dir t) j _).trans
    ((congrArg (A0 m c) (congrArg (ix2 _) (Fin.ext (Nat.add_assoc 8192 _ _).symm))).trans (Kernel16Ideal.Scan.b_at m c t j n).symm))

include e0 in
theorem c_eq (j n : Fin 128) : cv (Vt m' c t) (ix4 (dir t) j (grp t) n) = (iblk m c 2 t : FVec Ideal Kernel16Ideal.S128x128 .bf16) (ix2 j n) :=
  (Reference16Ideal.Scan.c_at _ (dir t) j (grp t) n).trans ((rows m m' c e0 (ord t) (dir t) j _).trans
    ((congrArg (A0 m c) (congrArg (ix2 _) (Fin.ext (Nat.add_assoc 9216 _ _).symm))).trans (Kernel16Ideal.Scan.c_at m c t j n).symm))

variable (fin : ∀ x, ∃ r : ℝ, A1 m c x = (r : EReal))

include e0 e1 fin in
theorem dx_eq (j : Fin 128) (h : Fin 16) (p : Fin 64) : dv (Vt m' c t) (ix4 (dir t) j (grp t) h) * xv (Vt m' c t) (ix5 (dir t) j (grp t) h p) = dxs m c t (ix2 j (at_ h p)) := by
  refine Eq.trans ?_ (Kernel16Ideal.Scan.spread (iblk m c 3 t) (iblk m c 0 t) (fun h j => ?_) j (at_ h p)).symm
  · rw [head_at]
    refine congrArg₂ (· * ·) ?_ ?_
    · exact (Reference16Ideal.Scan.dt_at _ (dir t) j (grp t) h).trans ((steps m m' c e1 (ord t) (dir t) j _).trans (Kernel16Ideal.Scan.dt_at m c t h j).symm)
    · exact (Reference16Ideal.Scan.x_at _ (dir t) j (grp t) h p).trans ((rows m m' c e0 (ord t) (dir t) j _).trans
        ((congrArg (A0 m c) (congrArg (ix2 _) (Fin.ext (Nat.add_assoc _ _ _)))).trans (Kernel16Ideal.Scan.x_at m c t j (at_ h p)).symm))
  · obtain ⟨r, hr⟩ := fin (ix2 (row (dir t) (ord t) j) (Kernel16Ideal.Scan.col (dir t) (grp t) h))
    exact ⟨r, (Kernel16Ideal.Scan.dt_at m c t h j).trans hr⟩

theorem turn (e d x b : EReal) : e * d * x * b = b * (e * (d * x)) := by rw [mul_comm (e * d * x) b, mul_assoc]

theorem turn' (x s d : EReal) : x * (s * d) = s * (d * x) := by rw [mul_comm x, mul_assoc]

variable (hs : ∀ h p n, sv (Vt m' c t) (ix5 (dir t) (grp t) h p n) = before m c t (ix2 n (at_ h p)))

include e0 e1 e2 fin hs in
/-- A trip's new state is the one the point leaves. -/
theorem state_step (h : Fin 16) (p : Fin 64) (n : Fin 128) :
    (Reference16Ideal.Value.step_main_v26_4 (Vt m' c t) : FVec Ideal Reference16Ideal.S2x8x16x64x128 .f32) (ix5 (dir t) (grp t) h p n) = (outsAt0 m c t.val t.isLt).2 (ix2 n (at_ h p)) := by
  rw [Reference16Ideal.Scan.next_at, Kernel16Ideal.Scan.after, next_at, hs, l_eq m m' c e2, Kernel16Ideal.Scan.last_at (dir t)]
  refine congrArg₂ (· + ·) rfl (Finset.sum_congr rfl fun j _ => ?_)
  rw [turn, dx_eq m m' c e0 e1 t fin, b_eq m m' c e0, a_eq m m' c e2, Kernel16Ideal.Scan.bt_at]

include e0 e1 e2 fin hs in
/-- A trip's rows are the ones the point writes. -/
theorem rows_step (i : Fin 128) (h : Fin 16) (p : Fin 64) :
    Reference16Ideal.Scan.made (Vt m' c t) (dir t) i (grp t) h p = ((outsAt0 m c t.val t.isLt).1 : FVec Ideal Kernel16Ideal.S1x128x1024 .bf16) (ix3 0 i (at_ h p)) := by
  unfold Reference16Ideal.Scan.made
  rw [Kernel16Ideal.Scan.out, tile_at, Kernel16Ideal.Scan.ys_at, a_eq m m' c e2 t i h]
  refine congrArg₂ (· + ·) (Finset.sum_congr rfl fun j _ => ?_) (congrArg (· * _) (Finset.sum_congr rfl fun n _ => ?_))
  · rw [turn', dx_eq m m' c e0 e1 t fin, r_eq m m' c e2 t j h, Kernel16Ideal.Scan.cb_at, Kernel16Ideal.Scan.keep_at]
    refine congrArg (· * _) (congrArg (· * _) (Finset.sum_congr rfl fun n _ => ?_))
    rw [b_eq m m' c e0, c_eq m m' c e0, mul_comm]
  · rw [hs, c_eq m m' c e0, mul_comm]

end Point

end Cert.Scan

end
-- ==== Proof.Scan.Out.lean ====
/-
  The reference's result: which trip of its loop made each row, in either direction.
-/
module

public import proofs.«01_k».proof.Proof.Scan.Entry

@[expose] public section

set_option maxRecDepth 32768

noncomputable section

namespace Cert.Reference16Ideal.Scan

open Cert.Reference16Ideal Cert.Reference16Ideal.Gen Cert.Reference16Ideal.Value Idealize.ShloMosaic Idealize.ShloMosaic.TcCoe Idealize.SL.Sem
open Idealize.ShloMosaic.StableHlo
open Cert.Kernel16Ideal.Scan (chunk row)

theorem same (v : FVec Ideal S130x2x128x8x16x64 .f32) {k k' : Fin 130} {i i' : Fin 128} {g g' : Fin 8} {h h' : Fin 16} {p p' : Fin 64}
    (ek : k = k') (ei : i = i') (eg : g = g') (eh : h = h') (ep : p = p') : v (ix6 k 1 i g h p) = v (ix6 k' 1 i' g' h' p') := by
  subst ek ei eg eh ep
  rfl

/-- The result, read where a chunk, a direction, a group and a head put it, is the rows made there. -/
theorem out_at (V0 : Valuation τ sig (Elt Ideal)) (d : Fin 2) (k : Fin 130) (i : Fin 128) (g : Fin 8) (h : Fin 16) (p : Fin 64) :
    (out_main_v40 V0 : FVec Ideal S2x16640x8192 .bf16) (ix3 d (row d k i) ⟨g.val * 1024 + (h.val * 64 + p.val), by omega⟩)
      = (V0 (Proc.devRef .tc main_v26_5) : FVec Ideal S130x2x128x8x16x64 .f32) (ix6 k d i g h p) := by
  fin_cases d
  · by_cases e : k.val < 2
    · have er : row 0 k i = ⟨(128 + k.val) * 128 + i.val, by omega⟩ := Fin.ext (by show chunk 0 k.val * 128 + i.val = _; rw [chunk, if_pos rfl, if_pos e])
      refine (congrArg (out_main_v40 V0 : FVec Ideal S2x16640x8192 .bf16) (congrArg (fun r => ix3 (0 : Fin 2) r _) er)).trans ?_
      unfold out_main_v40
      pointwise
      rw [dif_neg (by omega)]
      exact congrArg _ (congrArg (fun q => ix6 q 0 i g h p) (Fin.ext (by show ((128 + k.val) * 128 + i.val) / 128 - 128 = k.val; omega)))
    · have er : row 0 k i = ⟨(k.val - 2) * 128 + i.val, by omega⟩ := Fin.ext (by show chunk 0 k.val * 128 + i.val = _; rw [chunk, if_pos rfl, if_neg e])
      refine (congrArg (out_main_v40 V0 : FVec Ideal S2x16640x8192 .bf16) (congrArg (fun r => ix3 (0 : Fin 2) r _) er)).trans ?_
      unfold out_main_v40
      pointwise
      rw [dif_pos (by omega)]
      exact congrArg _ (congrArg (fun q => ix6 q 0 i g h p) (Fin.ext (by show 2 + ((k.val - 2) * 128 + i.val) / 128 = k.val; omega)))
  · have er : row 1 k i = ⟨k.rev.val * 128 + i.val, by have := k.rev.isLt; omega⟩ := Fin.ext (by
      show (129 - k.val) * 128 + i.val = k.rev.val * 128 + i.val
      rw [Fin.val_rev]
      omega)
    refine (congrArg (out_main_v40 V0 : FVec Ideal S2x16640x8192 .bf16) (congrArg (fun r => ix3 (1 : Fin 2) r _) er)).trans ?_
    unfold out_main_v40
    pointwise
    have off : ∀ {n : ℕ} (a : ℕ) (x : Fin n), a ≠ 0 → (if a ∈ [0] then x.rev else x) = x := fun a x ha => if_neg (by simpa using ha)
    have col : g.val * 1024 + (h.val * 64 + p.val) < 8192 := by omega
    exact same _ ((if_pos (by decide)).trans (Fin.rev_rev k)) (off 2 i (by decide))
      (Fin.ext ((congrArg (fun x : Fin 8192 => x.val / 1024) (off 3 ⟨_, col⟩ (by decide))).trans (by show (g.val * 1024 + (h.val * 64 + p.val)) / 1024 = g.val; omega)))
      (Fin.ext ((congrArg (fun x : Fin 8192 => x.val / 64 % 16) (off 3 ⟨_, col⟩ (by decide))).trans (by show (g.val * 1024 + (h.val * 64 + p.val)) / 64 % 16 = h.val; omega)))
      (Fin.ext ((congrArg (fun x : Fin 8192 => x.val % 64) (off 3 ⟨_, col⟩ (by decide))).trans (by show (g.val * 1024 + (h.val * 64 + p.val)) % 64 = p.val; omega)))

end Cert.Reference16Ideal.Scan

end
-- ==== Proof.Scan.Value.lean ====
/-
  The scan's two programs brought together: what each trip of the reference's loop carries is what the kernel's points leave, and the result holds the rows they make.
-/
module

public import proofs.«01_k».proof.Proof.Scan.Main
public import proofs.«01_k».proof.Proof.Scan.Out
public import proofs.«01_k».proof.Proof.Claims
public import proofs.«01_k».proof.Proof.Gen.Pre_finite_steps

@[expose] public section

set_option maxRecDepth 32768

noncomputable section

namespace Cert.Scan

open Idealize.ShloMosaic Idealize.ShloMosaic.TcCoe Idealize.SL.Sem
open Idealize.ShloMosaic.StableHlo
open Cert.Kernel16Ideal.Scan (chunk row dir grp ord head before)
open Cert.Kernel16Ideal.Gen (iblk outsAt0)
open Cert.Kernel16Ideal (cfg0 grid0)
open Cert.Reference16Ideal.Value (STEP preI)
open Cert.Reference16Ideal.Scan (sv yv)

/-- The point before one that is not the first of its direction and group. -/
theorem prior (t : Fin cfg0.N) (h : t.val % 130 ≠ 0) : ∃ t' : Fin cfg0.N, t.val = t'.val + 1 ∧ dir t' = dir t ∧ grp t' = grp t ∧ (ord t).val = (ord t').val + 1 := by
  have c := Kernel16Ideal.Scan.coords t
  refine ⟨⟨t.val - 1, by have := t.isLt; omega⟩, by dsimp only; omega, ?_⟩
  have c' := Kernel16Ideal.Scan.coords ⟨t.val - 1, by have := t.isLt; omega⟩
  dsimp only at c'
  refine ⟨Fin.ext ?_, Fin.ext ?_, ?_⟩
  · rw [c'.1, c.1]; omega
  · rw [c'.2.1, c.2.1]; omega
  · rw [c'.2.2, c.2.2]; omega

variable (m : (ℓ : Loc Kernel16Ideal.nD Kernel16Ideal.τ Kernel16Ideal.sig) → Buf (Elt Ideal) ℓ)
  (m' : (ℓ : Loc Reference16Ideal.nD Reference16Ideal.τ Reference16Ideal.sig) → Buf (Elt Ideal) ℓ) (c : Dev Kernel16Ideal.nD)
  (e0 : m' ((c.tc : Thread Reference16Ideal.nD Reference16Ideal.τ).loc Reference16Ideal.main_arg0) = A0 m c)
  (e1 : m' ((c.tc : Thread Reference16Ideal.nD Reference16Ideal.τ).loc Reference16Ideal.main_arg1) = A1 m c)
  (e2 : m' ((c.tc : Thread Reference16Ideal.nD Reference16Ideal.τ).loc Reference16Ideal.main_arg2) = A2 m c)
  (fin : ∀ x, ∃ r : ℝ, A1 m c x = (r : EReal))

theorem zero_at (d : Fin 2) (g : Fin 8) (h : Fin 16) (p : Fin 64) (q : Fin 128) (x : Fin 1024) :
    (Reference16Ideal.Step.K_main_v0 (F := Ideal) : FVec Ideal Reference16Ideal.S2x8x16x64x128 .f32) (ix5 d g h p q) = Kernel16Ideal.Gen.k0_pay2 (F := Ideal) (ix2 q x) := by
  unfold Reference16Ideal.Step.K_main_v0 Reference16Ideal.Step.K_main_cst Kernel16Ideal.Gen.k0_pay2
  pointwise

theorem Vk_succ (n : ℕ) : Vk m' c (n + 1) = STEP (Vk m' c n) := Function.iterate_succ_apply' _ _ _

include e0 e1 e2 fin in
/-- The state a trip finds is the one the point finds. -/
theorem state (n : ℕ) : ∀ t : Fin cfg0.N, (ord t).val = n → ∀ h p q, sv (Vk m' c n) (ix5 (dir t) (grp t) h p q) = before m c t (ix2 q (at_ h p)) := by
  induction n with
  | zero =>
    intro t hn h p q
    have h0 : t.val % 130 = 0 := (Kernel16Ideal.Scan.coords t).2.2.symm.trans hn
    unfold before
    rw [if_pos h0]
    exact (congrFun (Reference16Ideal.Scan.entry4 m' c) _).trans (zero_at _ _ h p q _)
  | succ n ih =>
    intro t hn h p q
    have h0 : t.val % 130 ≠ 0 := fun z => Nat.succ_ne_zero n (hn.symm.trans ((Kernel16Ideal.Scan.coords t).2.2.trans z))
    obtain ⟨t', et, ed, eg, eo⟩ := prior t h0
    have en : n = (ord t').val := by omega
    subst en
    have eb : before m c t = (outsAt0 m c t'.val t'.isLt).2 := by
      unfold before
      rw [if_neg h0]
      have e : t.val - 1 = t'.val := by omega
      congr 1
      simp only [e]
    rw [eb, Vk_succ, ← ed, ← eg]
    exact (congrFun (Reference16Ideal.Value.STEP_main_v26_4 _) _).trans (state_step m m' c e0 e1 e2 t' fin (ih t' rfl) h p q)

include e0 e1 e2 fin in
/-- The rows carried past a trip are the ones its point wrote. -/
theorem kept (n : ℕ) (hn : n ≤ 130) : ∀ t : Fin cfg0.N, (ord t).val < n → ∀ i h p,
    yv (Vk m' c n) (ix6 (ord t) (dir t) i (grp t) h p) = ((outsAt0 m c t.val t.isLt).1 : FVec Ideal Kernel16Ideal.S1x128x1024 .bf16) (ix3 0 i (at_ h p)) := by
  induction n with
  | zero => exact fun t ht => absurd ht (Nat.not_lt_zero _)
  | succ n ih =>
    intro t ht i h p
    rw [Vk_succ]
    refine (congrFun (Reference16Ideal.Value.STEP_main_v26_5 _) _).trans ((Reference16Ideal.Scan.rows_after _ ⟨n, by omega⟩ (Reference16Ideal.Scan.held m' c n).1 (ord t) (dir t) i (grp t) h p).trans ?_)
    by_cases e : ord t = ⟨n, by omega⟩
    · rw [if_pos e]
      have en : n = (ord t).val := (congrArg Fin.val e).symm
      subst en
      exact rows_step m m' c e0 e1 e2 t fin (state m m' c e0 e1 e2 fin _ t rfl) i h p
    · rw [if_neg e]
      have en : (ord t).val ≠ n := fun x => e (Fin.ext x)
      exact ih (by omega) t (by omega) i h p

include e0 e1 e2 fin in
/-- The result, at the rows and columns of a point's block. -/
theorem agree (t : Fin cfg0.N) (i : Fin 128) (h : Fin 16) (p : Fin 64) :
    (Reference16Ideal.Value.out_main_v40 (Vk m' c 130) : FVec Ideal Reference16Ideal.S2x16640x8192 .bf16) (ix3 (dir t) (row (dir t) (ord t) i) ⟨(grp t).val * 1024 + (h.val * 64 + p.val), by have := (grp t).isLt; omega⟩)
      = ((outsAt0 m c t.val t.isLt).1 : FVec Ideal Kernel16Ideal.S1x128x1024 .bf16) (ix3 0 i (at_ h p)) :=
  (Reference16Ideal.Scan.out_at _ (dir t) (ord t) i (grp t) h p).trans (kept m m' c e0 e1 e2 fin 130 (Nat.le_refl _) t (ord t).isLt i h p)

instance : Subsingleton Pre_finite_steps.S_.Idx := ⟨fun a b => funext fun d => d.elim0⟩

theorem finite (a0 : FVec Ideal Kernel16Ideal.S16640x10240 .bf16) (a1 a2 : FVec Ideal Kernel16Ideal.S16640x256 .f32) (h : Pre_finite_steps.fn a0 a1 a2 = fun _ => 1#1) (x) : ∃ r : ℝ, a1 x = (r : EReal) := by
  have h0 := congrFun h (Shape.Idx.first Pre_finite_steps.Facts.h_S_)
  dsimp only [Pre_finite_steps.fn] at h0
  exact Attention.finite_of_word (a1 x) (Host.reduce_andi_all _ _ _ _ _ h0 x)

/-- The reference's frame: its run keeps the arguments, and it declares no semaphores. -/
theorem reference_frame (m : (ℓ : Loc Reference16Ideal.nD Reference16Ideal.τ Reference16Ideal.sig) → Buf (Elt Ideal) ℓ) (g : Dev Reference16Ideal.nD → PrngReg) :
    θ_run (Reference16Ideal.defs (F := Ideal)) (onTc (τ := Reference16Ideal.τ) (Reference16Ideal.main (F := Ideal))) ⟨m, fun _ => 0, g⟩ (fun r => (∀ c : Dev Reference16Ideal.nD,
      r.2.mem ((c.tc : Thread Reference16Ideal.nD Reference16Ideal.τ).loc Reference16Ideal.main_arg0) = m ((c.tc : Thread Reference16Ideal.nD Reference16Ideal.τ).loc Reference16Ideal.main_arg0)
      ∧ r.2.mem ((c.tc : Thread Reference16Ideal.nD Reference16Ideal.τ).loc Reference16Ideal.main_arg1) = m ((c.tc : Thread Reference16Ideal.nD Reference16Ideal.τ).loc Reference16Ideal.main_arg1)
      ∧ r.2.mem ((c.tc : Thread Reference16Ideal.nD Reference16Ideal.τ).loc Reference16Ideal.main_arg2) = m ((c.tc : Thread Reference16Ideal.nD Reference16Ideal.τ).loc Reference16Ideal.main_arg2))
      ∧ r.2.sem = fun _ => 0) :=
  (θ_run _ _ _).mono (fun r h => ⟨fun c => (h c).2, sem_eq_zero_of_no_sems (by decide) r.2⟩) (Reference16Ideal.Value.run m g)

/-- A place in a point's block: a row, and a column of a head. -/
theorem parts (y : Kernel16Ideal.S1x128x1024.Idx) : ∃ (i : Fin 128) (h : Fin 16) (p : Fin 64), y = ix3 0 i (at_ h p) := by
  have h0 : (y 0).val < 1 := (y 0).isLt
  have h2 : (y 2).val < 1024 := (y 2).isLt
  refine ⟨y 1, ⟨(y 2).val / 64, by omega⟩, ⟨(y 2).val % 64, by omega⟩, funext fun a => Fin.ext ?_⟩
  fin_cases a
  · show (y 0).val = 0
    omega
  · rfl
  · show (y 2).val = (y 2).val / 64 * 64 + (y 2).val % 64
    omega

theorem value : algebraic_Kernel16Ideal_Reference16Ideal_pre_finite_steps := fun m g m' g' hpre hargs => by
  refine ⟨fun c => (Kernel16Ideal.Gen.dats m 0 c).arrAt 6 cfg0.N, Kernel16Ideal.Value.run_blocks m g, (θ_run _ _ _).mono (fun r h c => ⟨?_, (h c).2⟩) (Reference16Ideal.Value.run m' g')⟩
  rw [(h c).1]
  have fin := finite _ _ _ (hpre c)
  have ha := hargs c
  clear h
  symm
  refine (Kernel16Ideal.Gen.dats m 0 c).arrAt_eq_of_covers 6 _ (by decide +kernel) fun t hf y => ?_
  blk_simp
  rw [Kernel16Ideal.Gen.after0_6]
  obtain ⟨i, q, p, rfl⟩ := parts y
  refine (agree m m' c ha.1 ha.2.1 ha.2.2 fin t i q p).symm.trans (congrArg (Reference16Ideal.Value.out_main_v40 (Vk m' c 130) : FVec Ideal Reference16Ideal.S2x16640x8192 .bf16) ?_)
  blk_ext [Kernel16Ideal.Scan.idx t]
  all_goals rfl

end Cert.Scan

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_latent_rows
public import proofs.«01_k».proof.Proof.Gen.Pre_finite_scores
public import proofs.«01_k».proof.Proof.Gen.Pre_finite_steps
public import proofs.«01_k».proof.Proof.Kernel.Run
public import proofs.«01_k».proof.Proof.Claims
public import proofs.«01_k».proof.Proof.Linear.FfnUp
public import proofs.«01_k».proof.Proof.Linear.FfnDown
public import proofs.«01_k».proof.Proof.Linear.SsdInZ
public import proofs.«01_k».proof.Proof.Linear.SsdInXbc
public import proofs.«01_k».proof.Proof.Linear.SsdInDt
public import proofs.«01_k».proof.Proof.Linear.SsdOut
public import proofs.«01_k».proof.Proof.Linear.AttnIn
public import proofs.«01_k».proof.Proof.Linear.AttnOut
public import proofs.«01_k».proof.Proof.Norm.Final
public import proofs.«01_k».proof.Proof.Norm.Mod
public import proofs.«01_k».proof.Proof.Norm.GateNorm
public import proofs.«01_k».proof.Proof.Norm.Adaln
public import proofs.«01_k».proof.Proof.Scan.Value
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel16.Frame
public import proofs.«01_k».proof.Proof.Gen.Kernel2Ideal.Value
public import proofs.«01_k».proof.Proof.Gen.Kernel2.Frame
public import proofs.«01_k».proof.Proof.Gen.Reference2Ideal.Run
public import proofs.«01_k».proof.Proof.Gen.Kernel3Ideal.Value
public import proofs.«01_k».proof.Proof.Gen.Kernel3.Frame
public import proofs.«01_k».proof.Proof.Gen.Reference3Ideal.Run
public import proofs.«01_k».proof.Proof.Gen.Kernel4Ideal.Value
public import proofs.«01_k».proof.Proof.Gen.Kernel4.Frame
public import proofs.«01_k».proof.Proof.Gen.Reference4Ideal.Run
public import proofs.«01_k».proof.Proof.Gen.Kernel5Ideal.Value
public import proofs.«01_k».proof.Proof.Gen.Kernel5.Frame
public import proofs.«01_k».proof.Proof.Gen.Reference5Ideal.Run
public import proofs.«01_k».proof.Proof.Gen.Kernel6Ideal.Value
public import proofs.«01_k».proof.Proof.Gen.Kernel6.Frame
public import proofs.«01_k».proof.Proof.Gen.Reference6Ideal.Run
public import proofs.«01_k».proof.Proof.Gen.Kernel7Ideal.Value
public import proofs.«01_k».proof.Proof.Gen.Kernel7.Frame
public import proofs.«01_k».proof.Proof.Gen.Reference7Ideal.Run
public import proofs.«01_k».proof.Proof.Gen.Kernel8Ideal.Value
public import proofs.«01_k».proof.Proof.Gen.Kernel8.Frame
public import proofs.«01_k».proof.Proof.Gen.Reference8Ideal.Run
public import proofs.«01_k».proof.Proof.Gen.Kernel9Ideal.Value
public import proofs.«01_k».proof.Proof.Gen.Kernel9.Frame
public import proofs.«01_k».proof.Proof.Gen.Reference9Ideal.Run
public import Idealize.ShloMosaic.Adequacy
public import Idealize.ShloMosaic.Init

@[expose] public section

noncomputable section

namespace Cert.Proof

open Idealize.ShloMosaic Idealize.SL.Sem

/-- The reference's frame: its run keeps the arguments, and it declares no semaphores. -/
theorem reference_frame (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2))
      ∧ r.2.sem = fun _ => 0) :=
  (θ_run _ _ _).mono (fun r h => ⟨fun c => (h c).2, sem_eq_zero_of_no_sems (by decide) r.2⟩) (ReferenceIdeal.Value.run m g)

theorem attention : algebraic_KernelIdeal_ReferenceIdeal_on_latent_rows_pre_finite_scores := fun m g m' g' hpre hargs => by
  refine ⟨fun c => (KernelIdeal.Flash.dats m 0 c).arrAt 3 KernelIdeal.cfg0.N,
    (θ_run _ _ _).mono (fun r h c => ⟨fun i _ => congrFun (h c).1 i, (h c).2⟩) (KernelIdeal.Flash.run_value m g),
    (θ_run _ _ _).mono (fun r h c => ⟨fun i hi => ?_, (h c).2⟩) (ReferenceIdeal.Value.run m' g')⟩
  obtain ⟨fq, fk⟩ := Attention.finite_of_pre _ _ _ (hpre c)
  rw [(h c).1, (hargs c).1, (hargs c).2.1, (hargs c).2.2]
  exact (Attention.equal_at m c _ _ _ rfl rfl rfl fq fk i (Attention.row_of_mask _ _ _ i hi)).symm

theorem claim : Cert.Claim :=
  ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel4.Gen.facts, Kernel4Ideal.Gen.facts, Reference4Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel16.Gen.facts, Kernel16Ideal.Gen.facts, Reference16Ideal.Gen.facts, Pre_finite_scores.Gen.facts, Pre_finite_steps.Gen.facts, On_latent_rows.Gen.facts,
    fun m g _ => Kernel.Flash.frame_quiescent m g, fun m g _ => KernelIdeal.Flash.frame_quiescent m g, fun m g _ => KernelIdeal.Flash.frame_quiescent m g,
    fun m g _ => reference_frame m g, fun m g _ => reference_frame m g,
    fun m g _ => Kernel2.Gen.frame m g, fun m g _ => Kernel2Ideal.Gen.frame m g, Kernel2Ideal.Linear.reference_frame,
    fun m g _ => Kernel3.Gen.frame m g, fun m g _ => Kernel3Ideal.Gen.frame m g, Kernel3Ideal.Linear.reference_frame,
    fun m g _ => Kernel4.Gen.frame m g, fun m g _ => Kernel4Ideal.Gen.frame m g, Kernel4Ideal.Linear.reference_frame,
    fun m g _ => Kernel5.Gen.frame m g, fun m g _ => Kernel5Ideal.Gen.frame m g, Kernel5Ideal.Linear.reference_frame,
    fun m g _ => Kernel6.Gen.frame m g, fun m g _ => Kernel6Ideal.Gen.frame m g, Kernel6Ideal.Linear.reference_frame,
    fun m g _ => Kernel7.Gen.frame m g, fun m g _ => Kernel7Ideal.Gen.frame m g, Kernel7Ideal.Linear.reference_frame,
    fun m g _ => Kernel8.Gen.frame m g, fun m g _ => Kernel8Ideal.Gen.frame m g, Kernel8Ideal.Linear.reference_frame,
    fun m g _ => Kernel9.Gen.frame m g, fun m g _ => Kernel9Ideal.Gen.frame m g, Kernel9Ideal.Linear.reference_frame,
    fun m g _ => Kernel10.Gen.frame m g, fun m g _ => Kernel10Ideal.Gen.frame m g, Kernel10Ideal.Norm.reference_frame,
    fun m g _ => Kernel11.Gen.frame m g, fun m g _ => Kernel11Ideal.Gen.frame m g, Kernel11Ideal.Norm.reference_frame,
    fun m g _ => Kernel12.Gen.frame m g, fun m g _ => Kernel12Ideal.Gen.frame m g, Kernel12Ideal.Norm.reference_frame,
    fun m g _ => Kernel13.Gen.frame m g, fun m g _ => Kernel13Ideal.Gen.frame m g, Kernel13Ideal.Norm.reference_frame,
    fun m g _ => Kernel16.Gen.frame m g, fun m g _ => Kernel16Ideal.Gen.frame m g, fun m g _ => Kernel16Ideal.Gen.frame m g,
    fun m g _ => Scan.reference_frame m g, fun m g _ => Scan.reference_frame m g,
    trivial, attention,
    trivial, Kernel2Ideal.Linear.value,
    trivial, Kernel3Ideal.Linear.value,
    trivial, Kernel4Ideal.Linear.value,
    trivial, Kernel5Ideal.Linear.value,
    trivial, Kernel6Ideal.Linear.value,
    trivial, Kernel7Ideal.Linear.value,
    trivial, Kernel8Ideal.Linear.value,
    trivial, Kernel9Ideal.Linear.value,
    trivial, Kernel10Ideal.Norm.value,
    trivial, Kernel11Ideal.Norm.value,
    trivial, Kernel12Ideal.Norm.value,
    trivial, Kernel13Ideal.Norm.value,
    trivial, Scan.value⟩

end Cert.Proof

end
